-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S320000 : Shape := ⟨1, ![320000]⟩
abbrev S50000x128 : Shape := ⟨2, ![50000, 128]⟩
abbrev S320000x128 : Shape := ⟨2, ![320000, 128]⟩
abbrev S64x128 : Shape := ⟨2, ![64, 128]⟩
abbrev S128x64 : Shape := ⟨2, ![128, 64]⟩
abbrev S64 : Shape := ⟨1, ![64]⟩
abbrev S320x64 : Shape := ⟨2, ![320, 64]⟩
abbrev S64x64 : Shape := ⟨2, ![64, 64]⟩
abbrev S128x128 : Shape := ⟨2, ![128, 128]⟩
abbrev S128 : Shape := ⟨1, ![128]⟩
abbrev S_ : Shape := ⟨0, ![]⟩
abbrev S319999 : Shape := ⟨1, ![319999]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S128x64 : S_.BroadcastsInDim S128x64 (![] : Fin 0 → Fin S128x64.rank)
  reducesTo_S128x64_S_d0_1 : S128x64.ReducesTo [0, 1] S_
  bcast_S_S320x64 : S_.BroadcastsInDim S320x64 (![] : Fin 0 → Fin S320x64.rank)
  reducesTo_S320x64_S_d0_1 : S320x64.ReducesTo [0, 1] S_
  bcast_S_S320000 : S_.BroadcastsInDim S320000 (![] : Fin 0 → Fin S320000.rank)
  reducesTo_S320000_S_d0 : S320000.ReducesTo [0] S_
  slices_S320000_S319999_0 : S320000.Slices ![0] S319999
  slices_S320000_S319999_1 : S320000.Slices ![1] S319999
  reducesTo_S319999_S_d0 : S319999.ReducesTo [0] S_

variable [Facts]

def fn_part3 {F : FTy → Type} [FloatOps F] (main_arg9 : IVec S320000 32) (main_v44 : IVec S_ 1) (main_v49 : IVec S320000 1) (main_c_19 : IVec S_ 1) : IVec S_ 1 :=
  let main_v50 : IVec S_ 1 := (fun x v => Host.reduce IntOp.andi x v reducesTo_S320000_S_d0 h_S_) main_v49 main_c_19
  let main_v51 : IVec S_ 1 := andi main_v44 main_v50
  let main_v52 : IVec S319999 32 := (extractStridedSlice S319999 ![0] · slices_S320000_S319999_0) main_arg9
  let main_v53 : IVec S319999 32 := (extractStridedSlice S319999 ![1] · slices_S320000_S319999_1) main_arg9
  let main_v54 : IVec S319999 1 := cmpi .sle main_v52 main_v53
  let main_c_20 : IVec S_ 1 := constantI S_ 1 1#1
  let main_v55 : IVec S_ 1 := (fun x v => Host.reduce IntOp.andi x v reducesTo_S319999_S_d0 h_S_) main_v54 main_c_20
  let main_v56 : IVec S_ 1 := andi main_v51 main_v55
  main_v56

def fn_part2 {F : FTy → Type} [FloatOps F] (main_arg7 : IVec S320000 32) (main_arg8 : IVec S320000 32) (main_arg9 : IVec S320000 32) (main_v30 : IVec S_ 1) (main_v32 : IVec S320000 1) (main_c_12 : IVec S_ 32) : IVec S_ 1 :=
  let main_v33 : IVec S320000 32 := broadcastInDim S320000 ![] bcast_S_S320000 main_c_12
  let main_v34 : IVec S320000 1 := cmpi .slt main_arg7 main_v33
  let main_v35 : IVec S320000 1 := andi main_v32 main_v34
  let main_c_13 : IVec S_ 1 := constantI S_ 1 1#1
  let main_v36 : IVec S_ 1 := (fun x v => Host.reduce IntOp.andi x v reducesTo_S320000_S_d0 h_S_) main_v35 main_c_13
  let main_v37 : IVec S_ 1 := andi main_v30 main_v36
  let main_c_14 : IVec S_ 32 := constantI S_ 32 0#32
  let main_v38 : IVec S320000 32 := broadcastInDim S320000 ![] bcast_S_S320000 main_c_14
  let main_v39 : IVec S320000 1 := cmpi .sge main_arg8 main_v38
  let main_c_15 : IVec S_ 32 := constantI S_ 32 50000#32
  let main_v40 : IVec S320000 32 := broadcastInDim S320000 ![] bcast_S_S320000 main_c_15
  let main_v41 : IVec S320000 1 := cmpi .slt main_arg8 main_v40
  let main_v42 : IVec S320000 1 := andi main_v39 main_v41
  let main_c_16 : IVec S_ 1 := constantI S_ 1 1#1
  let main_v43 : IVec S_ 1 := (fun x v => Host.reduce IntOp.andi x v reducesTo_S320000_S_d0 h_S_) main_v42 main_c_16
  let main_v44 : IVec S_ 1 := andi main_v37 main_v43
  let main_c_17 : IVec S_ 32 := constantI S_ 32 0#32
  let main_v45 : IVec S320000 32 := broadcastInDim S320000 ![] bcast_S_S320000 main_c_17
  let main_v46 : IVec S320000 1 := cmpi .sge main_arg9 main_v45
  let main_c_18 : IVec S_ 32 := constantI S_ 32 40000#32
  let main_v47 : IVec S320000 32 := broadcastInDim S320000 ![] bcast_S_S320000 main_c_18
  let main_v48 : IVec S320000 1 := cmpi .slt main_arg9 main_v47
  let main_v49 : IVec S320000 1 := andi main_v46 main_v48
  let main_c_19 : IVec S_ 1 := constantI S_ 1 1#1
  fn_part3 (F := F) main_arg9 main_v44 main_v49 main_c_19

def fn_part1 {F : FTy → Type} [FloatOps F] (main_arg6 : IVec S320000 32) (main_arg7 : IVec S320000 32) (main_arg8 : IVec S320000 32) (main_arg9 : IVec S320000 32) (main_arg15 : FVec F S320x64 .f32) (main_v13 : IVec S_ 1) (main_v16 : IVec S320x64 1) : IVec S_ 1 :=
  let main_c_5 : IVec S_ 1 := constantI S_ 1 1#1
  let main_v17 : IVec S_ 1 := (fun x v => Host.reduce IntOp.andi x v reducesTo_S320x64_S_d0_1 h_S_) main_v16 main_c_5
  let main_v18 : IVec S_ 1 := andi main_v13 main_v17
  let main_v19 : FVec F S320x64 .f32 := Host.absf main_arg15
  let main_cst_6 : FVec F S_ .f32 := constant S_ .f32 0x7F800000#32
  let main_v20 : FVec F S320x64 .f32 := broadcastInDim S320x64 ![] bcast_S_S320x64 main_cst_6
  let main_v21 : IVec S320x64 1 := cmpf .olt main_v19 main_v20
  let main_c_7 : IVec S_ 1 := constantI S_ 1 1#1
  let main_v22 : IVec S_ 1 := (fun x v => Host.reduce IntOp.andi x v reducesTo_S320x64_S_d0_1 h_S_) main_v21 main_c_7
  let main_v23 : IVec S_ 1 := andi main_v18 main_v22
  let main_c_8 : IVec S_ 32 := constantI S_ 32 0#32
  let main_v24 : IVec S320000 32 := broadcastInDim S320000 ![] bcast_S_S320000 main_c_8
  let main_v25 : IVec S320000 1 := cmpi .sge main_arg6 main_v24
  let main_c_9 : IVec S_ 32 := constantI S_ 32 64#32
  let main_v26 : IVec S320000 32 := broadcastInDim S320000 ![] bcast_S_S320000 main_c_9
  let main_v27 : IVec S320000 1 := cmpi .slt main_arg6 main_v26
  let main_v28 : IVec S320000 1 := andi main_v25 main_v27
  let main_c_10 : IVec S_ 1 := constantI S_ 1 1#1
  let main_v29 : IVec S_ 1 := (fun x v => Host.reduce IntOp.andi x v reducesTo_S320000_S_d0 h_S_) main_v28 main_c_10
  let main_v30 : IVec S_ 1 := andi main_v23 main_v29
  let main_c_11 : IVec S_ 32 := constantI S_ 32 0#32
  let main_v31 : IVec S320000 32 := broadcastInDim S320000 ![] bcast_S_S320000 main_c_11
  let main_v32 : IVec S320000 1 := cmpi .sge main_arg7 main_v31
  let main_c_12 : IVec S_ 32 := constantI S_ 32 50000#32
  fn_part2 (F := F) main_arg7 main_arg8 main_arg9 main_v30 main_v32 main_c_12

def fn {F : FTy → Type} [FloatOps F] (main_arg0 : FVec F S320000 .f32) (main_arg1 : FVec F S50000x128 .f32) (main_arg2 : FVec F S320000x128 .f32) (main_arg3 : FVec F S64x128 .f32) (main_arg4 : FVec F S64x128 .f32) (main_arg5 : FVec F S64x128 .f32) (main_arg6 : IVec S320000 32) (main_arg7 : IVec S320000 32) (main_arg8 : IVec S320000 32) (main_arg9 : IVec S320000 32) (main_arg10 : IVec S320000 32) (main_arg11 : FVec F S128x64 .f32) (main_arg12 : FVec F S64 .f32) (main_arg13 : FVec F S320x64 .f32) (main_arg14 : FVec F S64 .f32) (main_arg15 : FVec F S320x64 .f32) (main_arg16 : FVec F S64 .f32) (main_arg17 : FVec F S64x64 .f32) (main_arg18 : FVec F S64 .f32) (main_arg19 : FVec F S128x128 .f32) (main_arg20 : FVec F S128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S320000x128 .f32 := Host.absf main_arg2
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S128x64 .f32 := Host.absf main_arg11
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S320x64 .f32 := Host.absf main_arg13
  let main_cst_4 : FVec F S_ .f32 := constant S_ .f32 0x7F800000#32
  let main_v15 : FVec F S320x64 .f32 := broadcastInDim S320x64 ![] bcast_S_S320x64 main_cst_4
  let main_v16 : IVec S320x64 1 := cmpf .olt main_v14 main_v15
  fn_part1 (F := F) main_arg6 main_arg7 main_arg8 main_arg9 main_arg15 main_v13 main_v16
-- ==== Kernel.lean ====
abbrev S320000 : Shape := ⟨1, ![320000]⟩
abbrev S50000x128 : Shape := ⟨2, ![50000, 128]⟩
abbrev S320000x128 : Shape := ⟨2, ![320000, 128]⟩
abbrev S64x128 : Shape := ⟨2, ![64, 128]⟩
abbrev S128x64 : Shape := ⟨2, ![128, 64]⟩
abbrev S64 : Shape := ⟨1, ![64]⟩
abbrev S320x64 : Shape := ⟨2, ![320, 64]⟩
abbrev S64x64 : Shape := ⟨2, ![64, 64]⟩
abbrev S128x128 : Shape := ⟨2, ![128, 128]⟩
abbrev S128 : Shape := ⟨1, ![128]⟩
abbrev S1x64 : Shape := ⟨2, ![1, 64]⟩
abbrev S1x128 : Shape := ⟨2, ![1, 128]⟩
abbrev S50000x64 : Shape := ⟨2, ![50000, 64]⟩
abbrev S1000x128 : Shape := ⟨2, ![1000, 128]⟩
abbrev S1000x64 : Shape := ⟨2, ![1000, 64]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x64 : Shape := ⟨2, ![320000, 64]⟩
abbrev S80x1x4000 : Shape := ⟨3, ![80, 1, 4000]⟩
abbrev S4000x128 : Shape := ⟨2, ![4000, 128]⟩
abbrev S4000x64 : Shape := ⟨2, ![4000, 64]⟩
abbrev S1x1x4000 : Shape := ⟨3, ![1, 1, 4000]⟩
abbrev S4000x1 : Shape := ⟨2, ![4000, 1]⟩
abbrev S4000 : Shape := ⟨1, ![4000]⟩
abbrev S1x4000 : Shape := ⟨2, ![1, 4000]⟩
abbrev S1x3999 : Shape := ⟨2, ![1, 3999]⟩
abbrev S1x2 : Shape := ⟨2, ![1, 2]⟩
abbrev S1x3998 : Shape := ⟨2, ![1, 3998]⟩
abbrev S1x4 : Shape := ⟨2, ![1, 4]⟩
abbrev S1x3996 : Shape := ⟨2, ![1, 3996]⟩
abbrev S1x8 : Shape := ⟨2, ![1, 8]⟩
abbrev S1x3992 : Shape := ⟨2, ![1, 3992]⟩
abbrev S1x16 : Shape := ⟨2, ![1, 16]⟩
abbrev S1x3984 : Shape := ⟨2, ![1, 3984]⟩
abbrev S1x32 : Shape := ⟨2, ![1, 32]⟩
abbrev S1x3968 : Shape := ⟨2, ![1, 3968]⟩
abbrev S1x3936 : Shape := ⟨2, ![1, 3936]⟩
abbrev S1x3872 : Shape := ⟨2, ![1, 3872]⟩
abbrev S1x256 : Shape := ⟨2, ![1, 256]⟩
abbrev S1x3744 : Shape := ⟨2, ![1, 3744]⟩
abbrev S1x512 : Shape := ⟨2, ![1, 512]⟩
abbrev S1x3488 : Shape := ⟨2, ![1, 3488]⟩
abbrev S1x1024 : Shape := ⟨2, ![1, 1024]⟩
abbrev S1x2976 : Shape := ⟨2, ![1, 2976]⟩
abbrev S1x2048 : Shape := ⟨2, ![1, 2048]⟩
abbrev S1x1952 : Shape := ⟨2, ![1, 1952]⟩
abbrev S1x1x1 : Shape := ⟨3, ![1, 1, 1]⟩
abbrev S40000 : Shape := ⟨1, ![40000]⟩
abbrev S40000x128 : Shape := ⟨2, ![40000, 128]⟩

abbrev nBuf : Space → Nat
  | .hbm => 162
  | .vmem => 50
  | .smem => 5
  | _ => 0

abbrev hbmTy0_0 (i : Nat) : BufTy := match i % 128 with
  | 0 => ⟨S320000, .f32⟩
  | 1 => ⟨S50000x128, .f32⟩
  | 2 => ⟨S320000x128, .f32⟩
  | 3 => ⟨S64x128, .f32⟩
  | 4 => ⟨S64x128, .f32⟩
  | 5 => ⟨S64x128, .f32⟩
  | 6 => ⟨S320000, .i32⟩
  | 7 => ⟨S320000, .i32⟩
  | 8 => ⟨S320000, .i32⟩
  | 9 => ⟨S320000, .i32⟩
  | 10 => ⟨S320000, .i32⟩
  | 11 => ⟨S128x64, .f32⟩
  | 12 => ⟨S64, .f32⟩
  | 13 => ⟨S320x64, .f32⟩
  | 14 => ⟨S64, .f32⟩
  | 15 => ⟨S320x64, .f32⟩
  | 16 => ⟨S64, .f32⟩
  | 17 => ⟨S64x64, .f32⟩
  | 18 => ⟨S64, .f32⟩
  | 19 => ⟨S128x128, .f32⟩
  | 20 => ⟨S128, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S128x64, .f32⟩
  | 32 => ⟨S128x64, .f32⟩
  | 33 => ⟨S128x64, .f32⟩
  | 34 => ⟨S128x64, .f32⟩
  | 35 => ⟨S64x64, .f32⟩
  | 36 => ⟨S1x64, .f32⟩
  | 37 => ⟨S64x64, .f32⟩
  | 38 => ⟨S64x64, .f32⟩
  | 39 => ⟨S64x64, .f32⟩
  | 40 => ⟨S1x64, .f32⟩
  | 41 => ⟨S64x64, .f32⟩
  | 42 => ⟨S64x64, .f32⟩
  | 43 => ⟨S64x64, .f32⟩
  | 44 => ⟨S1x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S64x64, .f32⟩
  | 54 => ⟨S64x64, .f32⟩
  | 55 => ⟨S64x64, .f32⟩
  | 56 => ⟨S64x64, .f32⟩
  | 57 => ⟨S64, .f32⟩
  | 58 => ⟨S64, .f32⟩
  | 59 => ⟨S64, .f32⟩
  | 60 => ⟨S64, .f32⟩
  | 61 => ⟨S64, .f32⟩
  | 62 => ⟨S64, .f32⟩
  | 63 => ⟨S64, .f32⟩
  | 64 => ⟨S64, .f32⟩
  | 65 => ⟨S1x128, .f32⟩
  | 66 => ⟨S50000x64, .f32⟩
  | 67 => ⟨S50000x64, .f32⟩
  | 68 => ⟨S50000x128, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S1, .i32⟩
  | 78 => ⟨S_, .i32⟩
  | 79 => ⟨S320000x1, .i32⟩
  | 80 => ⟨S320000x1, .i1⟩
  | 81 => ⟨S1x1, .i32⟩
  | 82 => ⟨S320000x1, .i32⟩
  | 83 => ⟨S320000x1, .i1⟩
  | 84 => ⟨S320000x1, .i1⟩
  | 85 => ⟨S_, .i1⟩
  | 86 => ⟨S320000, .i1⟩
  | 87 => ⟨S320000x64, .f32⟩
  | 88 => ⟨S320000x64, .i1⟩
  | 89 => ⟨S_, .f32⟩
  | 90 => ⟨S320000x64, .f32⟩
  | 91 => ⟨S320000x64, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S1, .i32⟩
  | 101 => ⟨S_, .i32⟩
  | 102 => ⟨S320000x1, .i32⟩
  | 103 => ⟨S320000x1, .i1⟩
  | 104 => ⟨S1x1, .i32⟩
  | 105 => ⟨S320000x1, .i32⟩
  | 106 => ⟨S320000x1, .i1⟩
  | 107 => ⟨S320000x1, .i1⟩
  | 108 => ⟨S_, .i1⟩
  | 109 => ⟨S320000, .i1⟩
  | 110 => ⟨S320000x64, .f32⟩
  | 111 => ⟨S320000x64, .i1⟩
  | 112 => ⟨S_, .f32⟩
  | 113 => ⟨S320000x64, .f32⟩
  | 114 => ⟨S320000x64, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S1, .i32⟩
  | 124 => ⟨S_, .i32⟩
  | 125 => ⟨S320000x1, .i32⟩
  | 126 => ⟨S320000x1, .i1⟩
  | 127 => ⟨S1x1, .i32⟩
  | _ => ⟨S320000, .f32⟩

abbrev hbmTy0_1 (i : Nat) : BufTy := match i % 128 with
  | 0 => ⟨S320000x1, .i32⟩
  | 1 => ⟨S320000x1, .i1⟩
  | 2 => ⟨S320000x1, .i1⟩
  | 3 => ⟨S_, .i1⟩
  | 4 => ⟨S320000, .i1⟩
  | 5 => ⟨S320000x128, .f32⟩
  | 6 => ⟨S320000x128, .i1⟩
  | 7 => ⟨S_, .f32⟩
  | 8 => ⟨S320000x128, .f32⟩
  | 9 => ⟨S320000x128, .f32⟩
  | 10 => ⟨S80x1x4000, .i32⟩
  | 11 => ⟨S1x64, .f32⟩
  | 12 => ⟨S1x64, .f32⟩
  | 13 => ⟨S1x64, .f32⟩
  | 14 => ⟨S80x1x4000, .f32⟩
  | 15 => ⟨S80x1x4000, .i32⟩
  | 16 => ⟨S80x1x4000, .f32⟩
  | 17 => ⟨S80x1x4000, .f32⟩
  | 18 => ⟨S80x1x4000, .f32⟩
  | 19 => ⟨S80x1x4000, .f32⟩
  | 20 => ⟨S80x1x4000, .f32⟩
  | 21 => ⟨S320000, .f32⟩
  | 22 => ⟨S320000, .f32⟩
  | 23 => ⟨S_, .f32⟩
  | 24 => ⟨S40000, .f32⟩
  | 25 => ⟨S320000x1, .i32⟩
  | 26 => ⟨S40000, .f32⟩
  | 27 => ⟨S320000x1, .f32⟩
  | 28 => ⟨S320000x128, .f32⟩
  | 29 => ⟨S320000x128, .f32⟩
  | 30 => ⟨S_, .f32⟩
  | 31 => ⟨S40000x128, .f32⟩
  | 32 => ⟨S320000x1, .i32⟩
  | 33 => ⟨S40000x128, .f32⟩
  | _ => ⟨S320000, .f32⟩

abbrev hbmTy (i : Nat) : BufTy := match i / 128 with
  | 0 => hbmTy0_0 i
  | 1 => hbmTy0_1 i
  | _ => ⟨S320000, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x64, .f32⟩
  | .local _ .vmem, ⟨3, _⟩ => ⟨S128x64, .f32⟩
  | .local _ .vmem, ⟨4, _⟩ => ⟨S128x128, .f32⟩
  | .local _ .vmem, ⟨5, _⟩ => ⟨S1x128, .f32⟩
  | .local _ .vmem, ⟨6, _⟩ => ⟨S1000x64, .f32⟩
  | .local _ .vmem, ⟨7, _⟩ => ⟨S1000x64, .f32⟩
  | .local _ .vmem, ⟨8, _⟩ => ⟨S1000x64, .f32⟩
  | .local _ .vmem, ⟨9, _⟩ => ⟨S1000x64, .f32⟩
  | .local _ .vmem, ⟨10, _⟩ => ⟨S1000x128, .f32⟩
  | .local _ .vmem, ⟨11, _⟩ => ⟨S1000x128, .f32⟩
  | .local _ .vmem, ⟨12, _⟩ => ⟨S4000x128, .f32⟩
  | .local _ .vmem, ⟨13, _⟩ => ⟨S4000x128, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S1x1x4000, .i32⟩
  | .local _ .vmem, ⟨19, _⟩ => ⟨S1x1x4000, .i32⟩
  | .local _ .vmem, ⟨20, _⟩ => ⟨S128x64, .f32⟩
  | .local _ .vmem, ⟨21, _⟩ => ⟨S128x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S1x1x4000, .f32⟩
  | .local _ .vmem, ⟨29, _⟩ => ⟨S1x1x4000, .f32⟩
  | .local _ .vmem, ⟨30, _⟩ => ⟨S1x1x4000, .f32⟩
  | .local _ .vmem, ⟨31, _⟩ => ⟨S1x1x4000, .f32⟩
  | .local _ .vmem, ⟨32, _⟩ => ⟨S1x1x4000, .i32⟩
  | .local _ .vmem, ⟨33, _⟩ => ⟨S1x1x4000, .i32⟩
  | .local _ .vmem, ⟨34, _⟩ => ⟨S1x1x4000, .f32⟩
  | .local _ .vmem, ⟨35, _⟩ => ⟨S1x1x4000, .f32⟩
  | .local _ .vmem, ⟨36, _⟩ => ⟨S1x1x4000, .f32⟩
  | .local _ .vmem, ⟨37, _⟩ => ⟨S1x1x4000, .f32⟩
  | .local _ .vmem, ⟨38, _⟩ => ⟨S1x1x4000, .f32⟩
  | .local _ .vmem, ⟨39, _⟩ => ⟨S1x1x4000, .f32⟩
  | .local _ .vmem, ⟨40, _⟩ => ⟨S1x1x4000, .f32⟩
  | .local _ .vmem, ⟨41, _⟩ => ⟨S1x1x4000, .f32⟩
  | .local _ .vmem, ⟨42, _⟩ => ⟨S1x1x4000, .i32⟩
  | .local _ .vmem, ⟨43, _⟩ => ⟨S1x1x4000, .i32⟩
  | .local _ .vmem, ⟨44, _⟩ => ⟨S1x1x4000, .f32⟩
  | .local _ .vmem, ⟨45, _⟩ => ⟨S1x1x4000, .f32⟩
  | .local _ .vmem, ⟨46, _⟩ => ⟨S1x1x4000, .f32⟩
  | .local _ .vmem, ⟨47, _⟩ => ⟨S1x1x4000, .f32⟩
  | .local _ .vmem, ⟨48, _⟩ => ⟨S1x1x4000, .f32⟩
  | .local _ .vmem, ⟨49, _⟩ => ⟨S1x1x4000, .f32⟩
  | .local _ .smem, ⟨0, _⟩ => ⟨S1, .i32⟩
  | .local _ .smem, ⟨1, _⟩ => ⟨S1, .f32⟩
  | .local _ .smem, ⟨2, _⟩ => ⟨S1, .f32⟩
  | .local _ .smem, ⟨3, _⟩ => ⟨S1, .i32⟩
  | .local _ .smem, ⟨4, _⟩ => ⟨S1, .f32⟩
  | _, _ => ⟨S320000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45_0 : Ref sig .tc := ⟨.hbm, 66, rfl⟩
abbrev main_v45_1 : Ref sig .tc := ⟨.hbm, 67, rfl⟩
abbrev main_v45_2 : Ref sig .tc := ⟨.hbm, 68, rfl⟩
abbrev main_call0_c : Ref sig .tc := ⟨.hbm, 69, rfl⟩
abbrev main_call0_v0 : Ref sig .tc := ⟨.hbm, 70, rfl⟩
abbrev main_call0_v1 : Ref sig .tc := ⟨.hbm, 71, rfl⟩
abbrev main_call0_c_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_c_1 : Ref sig .tc := ⟨.hbm, 77, rfl⟩
abbrev main_call0_c_2 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_c_3 : Ref sig .tc := ⟨.hbm, 85, rfl⟩
abbrev main_call0_v12 : Ref sig .tc := ⟨.hbm, 86, rfl⟩
abbrev main_call0_v13 : Ref sig .tc := ⟨.hbm, 87, rfl⟩
abbrev main_call0_v14 : Ref sig .tc := ⟨.hbm, 88, rfl⟩
abbrev main_call0_cst : Ref sig .tc := ⟨.hbm, 89, rfl⟩
abbrev main_call0_v15 : Ref sig .tc := ⟨.hbm, 90, rfl⟩
abbrev main_v46 : Ref sig .tc := ⟨.hbm, 91, rfl⟩
abbrev main_call1_c : Ref sig .tc := ⟨.hbm, 92, rfl⟩
abbrev main_call1_v0 : Ref sig .tc := ⟨.hbm, 93, rfl⟩
abbrev main_call1_v1 : Ref sig .tc := ⟨.hbm, 94, rfl⟩
abbrev main_call1_c_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_c_1 : Ref sig .tc := ⟨.hbm, 100, rfl⟩
abbrev main_call1_c_2 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_c_3 : Ref sig .tc := ⟨.hbm, 108, rfl⟩
abbrev main_call1_v12 : Ref sig .tc := ⟨.hbm, 109, rfl⟩
abbrev main_call1_v13 : Ref sig .tc := ⟨.hbm, 110, rfl⟩
abbrev main_call1_v14 : Ref sig .tc := ⟨.hbm, 111, rfl⟩
abbrev main_call1_cst : Ref sig .tc := ⟨.hbm, 112, rfl⟩
abbrev main_call1_v15 : Ref sig .tc := ⟨.hbm, 113, rfl⟩
abbrev main_v47 : Ref sig .tc := ⟨.hbm, 114, rfl⟩
abbrev main_call2_c : Ref sig .tc := ⟨.hbm, 115, rfl⟩
abbrev main_call2_v0 : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_c_1 : Ref sig .tc := ⟨.hbm, 123, rfl⟩
abbrev main_call2_c_2 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_3 : Ref sig .tc := ⟨.hbm, 131, rfl⟩
abbrev main_call2_v12 : Ref sig .tc := ⟨.hbm, 132, rfl⟩
abbrev main_call2_v13 : Ref sig .tc := ⟨.hbm, 133, rfl⟩
abbrev main_call2_v14 : Ref sig .tc := ⟨.hbm, 134, rfl⟩
abbrev main_call2_cst : Ref sig .tc := ⟨.hbm, 135, rfl⟩
abbrev main_call2_v15 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56_0 : Ref sig .tc := ⟨.hbm, 145, rfl⟩
abbrev main_v56_1 : Ref sig .tc := ⟨.hbm, 146, rfl⟩
abbrev main_v57_0 : Ref sig .tc := ⟨.hbm, 147, rfl⟩
abbrev main_v57_1 : Ref sig .tc := ⟨.hbm, 148, rfl⟩
abbrev main_v58 : Ref sig .tc := ⟨.hbm, 149, rfl⟩
abbrev main_v59 : Ref sig .tc := ⟨.hbm, 150, rfl⟩
abbrev main_cst : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_cst_0 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg12_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg4_1 : Ref sig .tc := ⟨.vmem, 47, rfl⟩
abbrev cc3_stg5_0 : Ref sig .tc := ⟨.vmem, 48, rfl⟩
abbrev cc3_stg5_1 : Ref sig .tc := ⟨.vmem, 49, rfl⟩
abbrev cc2_scratch0 : Ref sig .tc := ⟨.smem, 0, rfl⟩
abbrev cc2_scratch1 : Ref sig .tc := ⟨.smem, 1, rfl⟩
abbrev cc2_scratch2 : Ref sig .tc := ⟨.smem, 2, rfl⟩
abbrev cc3_scratch0 : Ref sig .tc := ⟨.smem, 3, rfl⟩
abbrev cc3_scratch1 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem12_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem3_1 : DmaSem sig := 45
abbrev cc3_sem4_0 : DmaSem sig := 46
abbrev cc3_sem4_1 : DmaSem sig := 47
abbrev cc3_sem5_0 : DmaSem sig := 48
abbrev cc3_sem5_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x4000 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x1x4000 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![80], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x4000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x4000 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x4000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x4000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![80], ![false]⟩

def cc3_transform_0 (i : grid3.Coords) : Fin 3 → Nat :=
  let arg0 : BitVec 32 := BitVec.ofNat 32 (i 0).val
  let c79_i32 : BitVec 32 := 79#32
  let v0 : BitVec 32 := Scalar.subi c79_i32 arg0
  let c0_i32 : BitVec 32 := 0#32
  let c0_i32_0 : BitVec 32 := 0#32
  let c0_i32_1 : BitVec 32 := 0#32
  ![v0.toNat, c0_i32.toNat, c0_i32_0.toNat]

def cc3_transform_1 (i : grid3.Coords) : Fin 3 → Nat :=
  let arg0 : BitVec 32 := BitVec.ofNat 32 (i 0).val
  let c79_i32 : BitVec 32 := 79#32
  let v0 : BitVec 32 := Scalar.subi c79_i32 arg0
  let c0_i32 : BitVec 32 := 0#32
  let c0_i32_0 : BitVec 32 := 0#32
  let c0_i32_1 : BitVec 32 := 0#32
  ![v0.toNat, c0_i32.toNat, c0_i32_0.toNat]

def cc3_transform_2 (i : grid3.Coords) : Fin 3 → Nat :=
  let arg0 : BitVec 32 := BitVec.ofNat 32 (i 0).val
  let c79_i32 : BitVec 32 := 79#32
  let v0 : BitVec 32 := Scalar.subi c79_i32 arg0
  let c0_i32 : BitVec 32 := 0#32
  let c0_i32_0 : BitVec 32 := 0#32
  let c0_i32_1 : BitVec 32 := 0#32
  ![v0.toNat, c0_i32.toNat, c0_i32_0.toNat]

def cc3_transform_3 (i : grid3.Coords) : Fin 3 → Nat :=
  let arg0 : BitVec 32 := BitVec.ofNat 32 (i 0).val
  let c79_i32 : BitVec 32 := 79#32
  let v0 : BitVec 32 := Scalar.subi c79_i32 arg0
  let c0_i32 : BitVec 32 := 0#32
  let c0_i32_0 : BitVec 32 := 0#32
  let c0_i32_1 : BitVec 32 := 0#32
  ![v0.toNat, c0_i32.toNat, c0_i32_0.toNat]

def cc3_transform_4 (i : grid3.Coords) : Fin 3 → Nat :=
  let arg0 : BitVec 32 := BitVec.ofNat 32 (i 0).val
  let c79_i32 : BitVec 32 := 79#32
  let v0 : BitVec 32 := Scalar.subi c79_i32 arg0
  let c0_i32 : BitVec 32 := 0#32
  let c0_i32_0 : BitVec 32 := 0#32
  let c0_i32_1 : BitVec 32 := 0#32
  ![v0.toNat, c0_i32.toNat, c0_i32_0.toNat]

def cc3_transform_5 (i : grid3.Coords) : Fin 3 → Nat :=
  let arg0 : BitVec 32 := BitVec.ofNat 32 (i 0).val
  let c79_i32 : BitVec 32 := 79#32
  let v0 : BitVec 32 := Scalar.subi c79_i32 arg0
  let c0_i32 : BitVec 32 := 0#32
  let c0_i32_0 : BitVec 32 := 0#32
  let c0_i32_1 : BitVec 32 := 0#32
  ![v0.toNat, c0_i32.toNat, c0_i32_0.toNat]

abbrev stage3_0 : Fin 2 → Memref sig .tc .vmem S1x1x4000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x4000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x4000 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x4000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x4000 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x4000 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S320000 : Shape := ⟨1, ![320000]⟩
abbrev S50000x128 : Shape := ⟨2, ![50000, 128]⟩
abbrev S320000x128 : Shape := ⟨2, ![320000, 128]⟩
abbrev S64x128 : Shape := ⟨2, ![64, 128]⟩
abbrev S128x64 : Shape := ⟨2, ![128, 64]⟩
abbrev S64 : Shape := ⟨1, ![64]⟩
abbrev S320x64 : Shape := ⟨2, ![320, 64]⟩
abbrev S64x64 : Shape := ⟨2, ![64, 64]⟩
abbrev S128x128 : Shape := ⟨2, ![128, 128]⟩
abbrev S128 : Shape := ⟨1, ![128]⟩
abbrev S1x64 : Shape := ⟨2, ![1, 64]⟩
abbrev S320000x64 : Shape := ⟨2, ![320000, 64]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x320 : Shape := ⟨2, ![320000, 320]⟩
abbrev S1x320000 : Shape := ⟨2, ![1, 320000]⟩
abbrev S40000 : Shape := ⟨1, ![40000]⟩
abbrev S40000x1 : Shape := ⟨2, ![40000, 1]⟩
abbrev S40000x320000 : Shape := ⟨2, ![40000, 320000]⟩
abbrev S1x128 : Shape := ⟨2, ![1, 128]⟩
abbrev S40000x128 : Shape := ⟨2, ![40000, 128]⟩

abbrev nBuf : Space → Nat
  | .hbm => 253
  | .vmem => 0
  | .smem => 0
  | _ => 0

abbrev hbmTy0_0 (i : Nat) : BufTy := match i % 128 with
  | 0 => ⟨S320000, .f32⟩
  | 1 => ⟨S50000x128, .f32⟩
  | 2 => ⟨S320000x128, .f32⟩
  | 3 => ⟨S64x128, .f32⟩
  | 4 => ⟨S64x128, .f32⟩
  | 5 => ⟨S64x128, .f32⟩
  | 6 => ⟨S320000, .i32⟩
  | 7 => ⟨S320000, .i32⟩
  | 8 => ⟨S320000, .i32⟩
  | 9 => ⟨S320000, .i32⟩
  | 10 => ⟨S320000, .i32⟩
  | 11 => ⟨S128x64, .f32⟩
  | 12 => ⟨S64, .f32⟩
  | 13 => ⟨S320x64, .f32⟩
  | 14 => ⟨S64, .f32⟩
  | 15 => ⟨S320x64, .f32⟩
  | 16 => ⟨S64, .f32⟩
  | 17 => ⟨S64x64, .f32⟩
  | 18 => ⟨S64, .f32⟩
  | 19 => ⟨S128x128, .f32⟩
  | 20 => ⟨S128, .f32⟩
  | 21 => ⟨S64x64, .f32⟩
  | 22 => ⟨S1x64, .f32⟩
  | 23 => ⟨S64x64, .f32⟩
  | 24 => ⟨S64x64, .f32⟩
  | 25 => ⟨S64x64, .f32⟩
  | 26 => ⟨S1x64, .f32⟩
  | 27 => ⟨S64x64, .f32⟩
  | 28 => ⟨S64x64, .f32⟩
  | 29 => ⟨S64x64, .f32⟩
  | 30 => ⟨S1x64, .f32⟩
  | 31 => ⟨S64x64, .f32⟩
  | 32 => ⟨S64x64, .f32⟩
  | 33 => ⟨S320000x64, .f32⟩
  | 34 => ⟨S1x64, .f32⟩
  | 35 => ⟨S320000x64, .f32⟩
  | 36 => ⟨S320000x64, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S1, .i32⟩
  | 46 => ⟨S_, .i32⟩
  | 47 => ⟨S320000x1, .i32⟩
  | 48 => ⟨S320000x1, .i1⟩
  | 49 => ⟨S1x1, .i32⟩
  | 50 => ⟨S320000x1, .i32⟩
  | 51 => ⟨S320000x1, .i1⟩
  | 52 => ⟨S320000x1, .i1⟩
  | 53 => ⟨S_, .i1⟩
  | 54 => ⟨S320000, .i1⟩
  | 55 => ⟨S320000x128, .f32⟩
  | 56 => ⟨S320000x128, .i1⟩
  | 57 => ⟨S_, .f32⟩
  | 58 => ⟨S320000x128, .f32⟩
  | 59 => ⟨S320000x128, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S1, .i32⟩
  | 69 => ⟨S_, .i32⟩
  | 70 => ⟨S320000x1, .i32⟩
  | 71 => ⟨S320000x1, .i1⟩
  | 72 => ⟨S1x1, .i32⟩
  | 73 => ⟨S320000x1, .i32⟩
  | 74 => ⟨S320000x1, .i1⟩
  | 75 => ⟨S320000x1, .i1⟩
  | 76 => ⟨S_, .i1⟩
  | 77 => ⟨S320000, .i1⟩
  | 78 => ⟨S320000x128, .f32⟩
  | 79 => ⟨S320000x128, .i1⟩
  | 80 => ⟨S_, .f32⟩
  | 81 => ⟨S320000x128, .f32⟩
  | 82 => ⟨S320000x128, .f32⟩
  | 83 => ⟨S320000x64, .f32⟩
  | 84 => ⟨S1x64, .f32⟩
  | 85 => ⟨S320000x64, .f32⟩
  | 86 => ⟨S320000x64, .f32⟩
  | 87 => ⟨S320000x64, .f32⟩
  | 88 => ⟨S1x64, .f32⟩
  | 89 => ⟨S320000x64, .f32⟩
  | 90 => ⟨S320000x64, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S1, .i32⟩
  | 100 => ⟨S_, .i32⟩
  | 101 => ⟨S320000x1, .i32⟩
  | 102 => ⟨S320000x1, .i1⟩
  | 103 => ⟨S1x1, .i32⟩
  | 104 => ⟨S320000x1, .i32⟩
  | 105 => ⟨S320000x1, .i1⟩
  | 106 => ⟨S320000x1, .i1⟩
  | 107 => ⟨S_, .i1⟩
  | 108 => ⟨S320000, .i1⟩
  | 109 => ⟨S320000x64, .f32⟩
  | 110 => ⟨S320000x64, .i1⟩
  | 111 => ⟨S_, .f32⟩
  | 112 => ⟨S320000x64, .f32⟩
  | 113 => ⟨S320000x64, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S1, .i32⟩
  | 123 => ⟨S_, .i32⟩
  | 124 => ⟨S320000x1, .i32⟩
  | 125 => ⟨S320000x1, .i1⟩
  | 126 => ⟨S1x1, .i32⟩
  | 127 => ⟨S320000x1, .i32⟩
  | _ => ⟨S320000, .f32⟩

abbrev hbmTy0_1 (i : Nat) : BufTy := match i % 128 with
  | 0 => ⟨S320000x1, .i1⟩
  | 1 => ⟨S320000x1, .i1⟩
  | 2 => ⟨S_, .i1⟩
  | 3 => ⟨S320000, .i1⟩
  | 4 => ⟨S320000x64, .f32⟩
  | 5 => ⟨S320000x64, .i1⟩
  | 6 => ⟨S_, .f32⟩
  | 7 => ⟨S320000x64, .f32⟩
  | 8 => ⟨S320000x64, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S1, .i32⟩
  | 18 => ⟨S_, .i32⟩
  | 19 => ⟨S320000x1, .i32⟩
  | 20 => ⟨S320000x1, .i1⟩
  | 21 => ⟨S1x1, .i32⟩
  | 22 => ⟨S320000x1, .i32⟩
  | 23 => ⟨S320000x1, .i1⟩
  | 24 => ⟨S320000x1, .i1⟩
  | 25 => ⟨S_, .i1⟩
  | 26 => ⟨S320000, .i1⟩
  | 27 => ⟨S320000x64, .f32⟩
  | 28 => ⟨S320000x64, .i1⟩
  | 29 => ⟨S_, .f32⟩
  | 30 => ⟨S320000x64, .f32⟩
  | 31 => ⟨S320000x64, .f32⟩
  | 32 => ⟨S320000x320, .f32⟩
  | 33 => ⟨S320000x320, .f32⟩
  | 34 => ⟨S320000x64, .f32⟩
  | 35 => ⟨S1x64, .f32⟩
  | 36 => ⟨S320000x64, .f32⟩
  | 37 => ⟨S320000x64, .f32⟩
  | 38 => ⟨S_, .f32⟩
  | 39 => ⟨S320000x64, .f32⟩
  | 40 => ⟨S320000x64, .i1⟩
  | 41 => ⟨S_, .f32⟩
  | 42 => ⟨S320000x64, .f32⟩
  | 43 => ⟨S320000x64, .f32⟩
  | 44 => ⟨S320000x64, .f32⟩
  | 45 => ⟨S320000x64, .f32⟩
  | 46 => ⟨S1x64, .f32⟩
  | 47 => ⟨S320000x64, .f32⟩
  | 48 => ⟨S320000x64, .f32⟩
  | 49 => ⟨S_, .f32⟩
  | 50 => ⟨S320000x64, .f32⟩
  | 51 => ⟨S320000x64, .i1⟩
  | 52 => ⟨S_, .f32⟩
  | 53 => ⟨S320000x64, .f32⟩
  | 54 => ⟨S320000x64, .f32⟩
  | 55 => ⟨S320000x64, .f32⟩
  | 56 => ⟨S320000x64, .f32⟩
  | 57 => ⟨S1x64, .f32⟩
  | 58 => ⟨S320000x64, .f32⟩
  | 59 => ⟨S320000x64, .f32⟩
  | 60 => ⟨S320000x64, .f32⟩
  | 61 => ⟨S_, .f32⟩
  | 62 => ⟨S320000, .f32⟩
  | 63 => ⟨S1x320000, .i32⟩
  | 64 => ⟨S40000, .i32⟩
  | 65 => ⟨S40000x1, .i32⟩
  | 66 => ⟨S40000x320000, .i32⟩
  | 67 => ⟨S40000x320000, .i32⟩
  | 68 => ⟨S40000x320000, .i1⟩
  | 69 => ⟨S40000x320000, .i32⟩
  | 70 => ⟨S_, .i32⟩
  | 71 => ⟨S40000, .i32⟩
  | 72 => ⟨S_, .i32⟩
  | 73 => ⟨S40000, .i32⟩
  | 74 => ⟨S40000, .i1⟩
  | 75 => ⟨S_, .i32⟩
  | 76 => ⟨S40000, .i32⟩
  | 77 => ⟨S40000, .i32⟩
  | 78 => ⟨S40000, .i32⟩
  | 79 => ⟨S40000x1, .i32⟩
  | 80 => ⟨S40000, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000, .f32⟩
  | 90 => ⟨S320000, .f32⟩
  | 91 => ⟨S320000, .f32⟩
  | 92 => ⟨S_, .f32⟩
  | 93 => ⟨S40000, .f32⟩
  | 94 => ⟨S320000x1, .i32⟩
  | 95 => ⟨S40000, .f32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S320000, .f32⟩
  | 105 => ⟨S_, .f32⟩
  | 106 => ⟨S320000, .f32⟩
  | 107 => ⟨S320000, .f32⟩
  | 108 => ⟨S320000, .f32⟩
  | 109 => ⟨S320000, .f32⟩
  | 110 => ⟨S_, .f32⟩
  | 111 => ⟨S40000, .f32⟩
  | 112 => ⟨S320000x1, .i32⟩
  | 113 => ⟨S40000, .f32⟩
  | 114 => ⟨S320000x128, .f32⟩
  | 115 => ⟨S1x128, .f32⟩
  | 116 => ⟨S320000x128, .f32⟩
  | 117 => ⟨S320000x128, .f32⟩
  | 118 => ⟨S320000x1, .f32⟩
  | 119 => ⟨S320000x128, .f32⟩
  | 120 => ⟨S320000x128, .f32⟩
  | 121 => ⟨S_, .f32⟩
  | 122 => ⟨S40000x128, .f32⟩
  | 123 => ⟨S320000x1, .i32⟩
  | 124 => ⟨S40000x128, .f32⟩
  | _ => ⟨S320000, .f32⟩

abbrev hbmTy (i : Nat) : BufTy := match i / 128 with
  | 0 => hbmTy0_0 i
  | 1 => hbmTy0_1 i
  | _ => ⟨S320000, .f32⟩

abbrev bufTy : (tb : Table) → Fin (tcTables nBuf tb) → BufTy
  | .hbm, ⟨i, _⟩ => hbmTy i
  | _, _ => ⟨S320000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v16 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v26 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v27 : Ref sig .tc := ⟨.hbm, 136, rfl⟩
abbrev main_call4_c : Ref sig .tc := ⟨.hbm, 137, rfl⟩
abbrev main_call4_v0 : Ref sig .tc := ⟨.hbm, 138, rfl⟩
abbrev main_call4_v1 : Ref sig .tc := ⟨.hbm, 139, rfl⟩
abbrev main_call4_c_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_c_1 : Ref sig .tc := ⟨.hbm, 145, rfl⟩
abbrev main_call4_c_2 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_c_3 : Ref sig .tc := ⟨.hbm, 153, rfl⟩
abbrev main_call4_v12 : Ref sig .tc := ⟨.hbm, 154, rfl⟩
abbrev main_call4_v13 : Ref sig .tc := ⟨.hbm, 155, rfl⟩
abbrev main_call4_v14 : Ref sig .tc := ⟨.hbm, 156, rfl⟩
abbrev main_call4_cst : Ref sig .tc := ⟨.hbm, 157, rfl⟩
abbrev main_call4_v15 : Ref sig .tc := ⟨.hbm, 158, rfl⟩
abbrev main_v28 : Ref sig .tc := ⟨.hbm, 159, rfl⟩
abbrev main_v29 : Ref sig .tc := ⟨.hbm, 160, rfl⟩
abbrev main_v30 : Ref sig .tc := ⟨.hbm, 161, rfl⟩
abbrev main_v31 : Ref sig .tc := ⟨.hbm, 162, rfl⟩
abbrev main_v32 : Ref sig .tc := ⟨.hbm, 163, rfl⟩
abbrev main_v33 : Ref sig .tc := ⟨.hbm, 164, rfl⟩
abbrev main_v34 : Ref sig .tc := ⟨.hbm, 165, rfl⟩
abbrev main_cst : Ref sig .tc := ⟨.hbm, 166, rfl⟩
abbrev main_v35 : Ref sig .tc := ⟨.hbm, 167, rfl⟩
abbrev main_v36 : Ref sig .tc := ⟨.hbm, 168, rfl⟩
abbrev main_cst_0 : Ref sig .tc := ⟨.hbm, 169, rfl⟩
abbrev main_v37 : Ref sig .tc := ⟨.hbm, 170, rfl⟩
abbrev main_v38 : Ref sig .tc := ⟨.hbm, 171, rfl⟩
abbrev main_v39 : Ref sig .tc := ⟨.hbm, 172, rfl⟩
abbrev main_v40 : Ref sig .tc := ⟨.hbm, 173, rfl⟩
abbrev main_v41 : Ref sig .tc := ⟨.hbm, 174, rfl⟩
abbrev main_v42 : Ref sig .tc := ⟨.hbm, 175, rfl⟩
abbrev main_v43 : Ref sig .tc := ⟨.hbm, 176, rfl⟩
abbrev main_cst_1 : Ref sig .tc := ⟨.hbm, 177, rfl⟩
abbrev main_v44 : Ref sig .tc := ⟨.hbm, 178, rfl⟩
abbrev main_v45 : Ref sig .tc := ⟨.hbm, 179, rfl⟩
abbrev main_cst_2 : Ref sig .tc := ⟨.hbm, 180, rfl⟩
abbrev main_v46 : Ref sig .tc := ⟨.hbm, 181, rfl⟩
abbrev main_v47 : Ref sig .tc := ⟨.hbm, 182, rfl⟩
abbrev main_v48 : Ref sig .tc := ⟨.hbm, 183, rfl⟩
abbrev main_v49 : Ref sig .tc := ⟨.hbm, 184, rfl⟩
abbrev main_v50 : Ref sig .tc := ⟨.hbm, 185, rfl⟩
abbrev main_v51 : Ref sig .tc := ⟨.hbm, 186, rfl⟩
abbrev main_v52 : Ref sig .tc := ⟨.hbm, 187, rfl⟩
abbrev main_v53 : Ref sig .tc := ⟨.hbm, 188, rfl⟩
abbrev main_cst_3 : Ref sig .tc := ⟨.hbm, 189, rfl⟩
abbrev main_v54 : Ref sig .tc := ⟨.hbm, 190, rfl⟩
abbrev main_v55 : Ref sig .tc := ⟨.hbm, 191, rfl⟩
abbrev main_v56 : Ref sig .tc := ⟨.hbm, 192, rfl⟩
abbrev main_v57 : Ref sig .tc := ⟨.hbm, 193, rfl⟩
abbrev main_v58 : Ref sig .tc := ⟨.hbm, 194, rfl⟩
abbrev main_v59 : Ref sig .tc := ⟨.hbm, 195, rfl⟩
abbrev main_v60 : Ref sig .tc := ⟨.hbm, 196, rfl⟩
abbrev main_v61 : Ref sig .tc := ⟨.hbm, 197, rfl⟩
abbrev main_c : Ref sig .tc := ⟨.hbm, 198, rfl⟩
abbrev main_v62 : Ref sig .tc := ⟨.hbm, 199, rfl⟩
abbrev main_c_4 : Ref sig .tc := ⟨.hbm, 200, rfl⟩
abbrev main_v63 : Ref sig .tc := ⟨.hbm, 201, rfl⟩
abbrev main_v64 : Ref sig .tc := ⟨.hbm, 202, rfl⟩
abbrev main_c_5 : Ref sig .tc := ⟨.hbm, 203, rfl⟩
abbrev main_v65 : Ref sig .tc := ⟨.hbm, 204, rfl⟩
abbrev main_v66 : Ref sig .tc := ⟨.hbm, 205, rfl⟩
abbrev main_v67 : Ref sig .tc := ⟨.hbm, 206, rfl⟩
abbrev main_v68 : Ref sig .tc := ⟨.hbm, 207, rfl⟩
abbrev main_v69 : Ref sig .tc := ⟨.hbm, 208, rfl⟩
abbrev main_c_6 : Ref sig .tc := ⟨.hbm, 209, rfl⟩
abbrev main_v70 : Ref sig .tc := ⟨.hbm, 210, rfl⟩
abbrev main_v71 : Ref sig .tc := ⟨.hbm, 211, rfl⟩
abbrev main_c_7 : Ref sig .tc := ⟨.hbm, 212, rfl⟩
abbrev main_v72 : Ref sig .tc := ⟨.hbm, 213, rfl⟩
abbrev main_v73 : Ref sig .tc := ⟨.hbm, 214, rfl⟩
abbrev main_v74 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_v78 : Ref sig .tc := ⟨.hbm, 219, rfl⟩
abbrev main_cst_8 : Ref sig .tc := ⟨.hbm, 220, rfl⟩
abbrev main_v79 : Ref sig .tc := ⟨.hbm, 221, rfl⟩
abbrev main_v80 : Ref sig .tc := ⟨.hbm, 222, rfl⟩
abbrev main_v81 : Ref sig .tc := ⟨.hbm, 223, rfl⟩
abbrev main_c_9 : Ref sig .tc := ⟨.hbm, 224, rfl⟩
abbrev main_v82 : Ref sig .tc := ⟨.hbm, 225, rfl⟩
abbrev main_v83 : Ref sig .tc := ⟨.hbm, 226, rfl⟩
abbrev main_c_10 : Ref sig .tc := ⟨.hbm, 227, rfl⟩
abbrev main_v84 : Ref sig .tc := ⟨.hbm, 228, rfl⟩
abbrev main_v85 : Ref sig .tc := ⟨.hbm, 229, rfl⟩
abbrev main_v86 : Ref sig .tc := ⟨.hbm, 230, rfl⟩
abbrev main_v87 : Ref sig .tc := ⟨.hbm, 231, rfl⟩
abbrev main_v88 : Ref sig .tc := ⟨.hbm, 232, rfl⟩
abbrev main_cst_11 : Ref sig .tc := ⟨.hbm, 233, rfl⟩
abbrev main_v89 : Ref sig .tc := ⟨.hbm, 234, rfl⟩
abbrev main_v90 : Ref sig .tc := ⟨.hbm, 235, rfl⟩
abbrev main_v91 : Ref sig .tc := ⟨.hbm, 236, rfl⟩
abbrev main_v92 : Ref sig .tc := ⟨.hbm, 237, rfl⟩
abbrev main_cst_12 : Ref sig .tc := ⟨.hbm, 238, rfl⟩
abbrev main_v93 : Ref sig .tc := ⟨.hbm, 239, rfl⟩
abbrev main_v94 : Ref sig .tc := ⟨.hbm, 240, rfl⟩
abbrev main_v95 : Ref sig .tc := ⟨.hbm, 241, rfl⟩
abbrev main_v96 : Ref sig .tc := ⟨.hbm, 242, rfl⟩
abbrev main_v97 : Ref sig .tc := ⟨.hbm, 243, rfl⟩
abbrev main_v98 : Ref sig .tc := ⟨.hbm, 244, rfl⟩
abbrev main_v99 : Ref sig .tc := ⟨.hbm, 245, rfl⟩
abbrev main_v100 : Ref sig .tc := ⟨.hbm, 246, rfl⟩
abbrev main_v101 : Ref sig .tc := ⟨.hbm, 247, rfl⟩
abbrev main_v102 : Ref sig .tc := ⟨.hbm, 248, rfl⟩
abbrev main_cst_13 : Ref sig .tc := ⟨.hbm, 249, rfl⟩
abbrev main_v103 : Ref sig .tc := ⟨.hbm, 250, rfl⟩
abbrev main_v104 : Ref sig .tc := ⟨.hbm, 251, rfl⟩
abbrev main_v105 : Ref sig .tc := ⟨.hbm, 252, rfl⟩

abbrev nD : Nat := 1
abbrev τ : Topo := Topo.v7x

variable {F : FTy → Type} [FloatOps F]
-- ==== Proof.TablesCall.lean ====
module

public import Idealize.ShloMosaic.Lib.Pipeline.ValueKit.Acc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The tables call

What a point stores, as functions of the blocks it loads; the body's run; the body's obligation at every point. -/

/-- The block of left projections. -/
def tblL (x0 : Vec F S1000x128 .f32) (x1 : Vec F S128x64 .f32) : Vec F S1000x64 .f32 :=
  k0_pay1 x0 x1
/-- The block of right projections. -/
def tblR (x0 : Vec F S1000x128 .f32) (x2 : Vec F S128x64 .f32) : Vec F S1000x64 .f32 :=
  k0_pay2 x0 x2
/-- The block of messages. -/
def tblM (x0 : Vec F S1000x128 .f32) (x3 : Vec F S128x128 .f32) (x4 : Vec F S1x128 .f32) : Vec F S1000x128 .f32 :=
  k0_pay3 x0 x3 x4

set_option maxHeartbeats 2000000 in
/-- The body on whole staging memrefs: the inputs are left as they were and each output holds the point's value. -/
theorem sound_kernel0 (c : Dev nD) (E : Set ℕ) (i : grid0.Coords) (arg1 : Memref sig .tc .vmem S1000x128 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1000x64 .f32) (harg6 : arg6.IsWhole) (arg7 : Memref sig .tc .vmem S1000x64 .f32) (harg7 : arg7.IsWhole) (arg8 : Memref sig .tc .vmem S1000x128 .f32) (harg8 : arg8.IsWhole)
    (x0 : Vec F S1000x128 .f32) (x1 : Vec F S128x64 .f32) (x2 : Vec F S128x64 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tblL x0 x1) ∗ owns (c : Thread nD τ) arg7 fullShare (tblR x0 x2) ∗ owns (c : Thread nD τ) arg8 fullShare (tblM x0 x3 x4)) -∗ K ⟨⟩))
      ⊢ wp frame (wpE (defs₀ (F := F)) Variants.none c none) E (cc0__tables_body i arg1 harg1 arg2 harg2 arg3 harg3 arg4 harg4 arg5 harg5 arg6 harg6 arg7 harg7 arg8 harg8) K := by
  simp only [cc0__tables_body_eq_skeleton]; unfold cc0__tables_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (View.cover_of_tiledL _ S1000x64.size (by sl_kernel_rfl))).trans ?_
    refine (View.canon_cons_unit_lit' _ _ _ (by decide)).trans ?_
    sl_open_run
    simp (disch := decide) only [View.readAt_eq_ld, View.ld_unit_lit']
    rfl
  isplitl [H6]
  · iexists _; isplitr
    swap; · iexact H6
    ipureintro
    refine (View.read_writes_eq_canon _ _ _ (View.cover_of_tiledL _ S1000x64.size (by sl_kernel_rfl))).trans ?_
    refine (View.canon_cons_unit_lit' _ _ _ (by decide)).trans ?_
    sl_open_run
    simp (disch := decide) only [View.readAt_eq_ld, View.ld_unit_lit']
    rfl
  iexists _; isplitr
  swap; · iexact H7
  ipureintro
  refine (View.read_writes_eq_canon _ _ _ (View.cover_of_tiledL _ S1000x128.size (by sl_kernel_rfl))).trans ?_
  refine (View.canon_cons_unit_lit' _ _ _ (by decide)).trans ?_
  sl_open_run
  simp (disch := decide) only [View.readAt_eq_ld, View.ld_unit_lit']
  rfl

section
variable (V : (c : Dev nD) → (b : Ref sig .tc) → Buf (Elt F) ((c : Thread nD τ).loc b))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! Each window's staging memref at a point. -/
abbrev ms0_0 (t : Fin cfg0.N) : Memref sig .tc .vmem S1000x128 .f32 := win0_0.stage (cfg0.slots t 0)
abbrev ms0_1 (t : Fin cfg0.N) : Memref sig .tc .vmem S128x64 .f32 := win0_1.stage (cfg0.slots t 1)
abbrev ms0_2 (t : Fin cfg0.N) : Memref sig .tc .vmem S128x64 .f32 := win0_2.stage (cfg0.slots t 2)
abbrev ms0_3 (t : Fin cfg0.N) : Memref sig .tc .vmem S128x128 .f32 := win0_3.stage (cfg0.slots t 3)
abbrev ms0_4 (t : Fin cfg0.N) : Memref sig .tc .vmem S1x128 .f32 := win0_4.stage (cfg0.slots t 4)
abbrev ms0_5 (t : Fin cfg0.N) : Memref sig .tc .vmem S1000x64 .f32 := win0_5.stage (cfg0.slots t 5)
abbrev ms0_6 (t : Fin cfg0.N) : Memref sig .tc .vmem S1000x64 .f32 := win0_6.stage (cfg0.slots t 6)
abbrev ms0_7 (t : Fin cfg0.N) : Memref sig .tc .vmem S1000x128 .f32 := win0_7.stage (cfg0.slots t 7)

/-- The call's proof data: the arrays as found; after a point each input's buffer at its block and each output's at the point's value. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => tblL (iblk0 V c 0 t) (iblk0 V c 1 t)
    | ⟨6, _⟩ => tblR (iblk0 V c 0 t) (iblk0 V c 2 t)
    | ⟨7, _⟩ => tblM (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-! What the body leaves in each window, and what it finds in each input. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = tblL (iblk0 V c 0 t) (iblk0 V c 1 t) := by dsimp only [dat0]
theorem after0_6 (c : Dev nD) (t : Fin cfg0.N) : (dat0 V c).after 6 t = tblR (iblk0 V c 0 t) (iblk0 V c 2 t) := by dsimp only [dat0]
theorem after0_7 (c : Dev nD) (t : Fin cfg0.N) : (dat0 V c).after 7 t = tblM (iblk0 V c 0 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))
/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end

end Cert.KernelIdeal.Run

end
-- ==== Proof.LogitsCall.lean ====
module

public import Idealize.ShloMosaic.Lib.Pipeline.ValueKit.Acc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The logits call

What a point stores, as functions of the blocks it loads; the body's run; the body's obligation at every point. -/

/-- The block of logits. -/
def lgtOut (x0 : Vec F S4000x128 .f32) (x1 : Vec F S4000x64 .f32) (x2 : Vec F S4000x64 .f32) (x3 : Vec F S1x1x4000 .i32) (x4 : Vec F S128x64 .f32) (x5 : Vec F S128x64 .f32) (x6 : Vec F S64x64 .f32) (x7 : Vec F S64x64 .f32) (x8 : Vec F S1x64 .f32) (x9 : Vec F S1x64 .f32) (x10 : Vec F S64x64 .f32) (x11 : Vec F S1x64 .f32) : Vec F S1x1x4000 .f32 :=
  k1_pay1 x0 (k1_pay3 x0 x3 x6 x1 x8 x4) (k1_pay4 x3 x7 x2 x9) x5 x10 x11

set_option maxHeartbeats 2000000 in
/-- The body on whole staging memrefs: the inputs are left as they were and each output holds the point's value. -/
theorem sound_kernel1 (c : Dev nD) (E : Set ℕ) (i : grid1.Coords) (arg1 : Memref sig .tc .vmem S4000x128 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S1x1x4000 .i32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x1x4000 .f32) (harg13 : arg13.IsWhole)
    (x0 : Vec F S4000x128 .f32) (x1 : Vec F S4000x64 .f32) (x2 : Vec F S4000x64 .f32) (x3 : Vec F S1x1x4000 .i32) (x4 : Vec F S128x64 .f32) (x5 : Vec F S128x64 .f32) (x6 : Vec F S64x64 .f32) (x7 : Vec F S64x64 .f32) (x8 : Vec F S1x64 .f32) (x9 : Vec F S1x64 .f32) (x10 : Vec F S64x64 .f32) (x11 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (lgtOut x0 x1 x2 x3 x4 x5 x6 x7 x8 x9 x10 x11)) -∗ K ⟨⟩))
      ⊢ wp frame (wpE (defs₀ (F := F)) Variants.none c none) E (cc1__logits_body i arg1 harg1 arg2 harg2 arg3 harg3 arg4 harg4 arg5 harg5 arg6 harg6 arg7 harg7 arg8 harg8 arg9 harg9 arg10 harg10 arg11 harg11 arg12 harg12 arg13 harg13) K := by
  simp only [cc1__logits_body_eq_skeleton]; unfold cc1__logits_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (View.read_writes_eq_canon _ _ _ (View.cover_of_tiledL _ S1x1x4000.size (by sl_kernel_rfl))).trans ?_
  refine (View.canon_cons_unit_lit' _ _ _ (by decide)).trans ?_
  sl_open_run
  simp (disch := decide) only [View.readAt_eq_ld, View.ld_unit_lit']
  rfl

section
variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! Each window's staging memref at a point. -/
abbrev ms1_0 (t : Fin cfg1.N) : Memref sig .tc .vmem S4000x128 .f32 := win1_0.stage (cfg1.slots t 0)
abbrev ms1_1 (t : Fin cfg1.N) : Memref sig .tc .vmem S4000x64 .f32 := win1_1.stage (cfg1.slots t 1)
abbrev ms1_2 (t : Fin cfg1.N) : Memref sig .tc .vmem S4000x64 .f32 := win1_2.stage (cfg1.slots t 2)
abbrev ms1_3 (t : Fin cfg1.N) : Memref sig .tc .vmem S1x1x4000 .i32 := win1_3.stage (cfg1.slots t 3)
abbrev ms1_4 (t : Fin cfg1.N) : Memref sig .tc .vmem S128x64 .f32 := win1_4.stage (cfg1.slots t 4)
abbrev ms1_5 (t : Fin cfg1.N) : Memref sig .tc .vmem S128x64 .f32 := win1_5.stage (cfg1.slots t 5)
abbrev ms1_6 (t : Fin cfg1.N) : Memref sig .tc .vmem S64x64 .f32 := win1_6.stage (cfg1.slots t 6)
abbrev ms1_7 (t : Fin cfg1.N) : Memref sig .tc .vmem S64x64 .f32 := win1_7.stage (cfg1.slots t 7)
abbrev ms1_8 (t : Fin cfg1.N) : Memref sig .tc .vmem S1x64 .f32 := win1_8.stage (cfg1.slots t 8)
abbrev ms1_9 (t : Fin cfg1.N) : Memref sig .tc .vmem S1x64 .f32 := win1_9.stage (cfg1.slots t 9)
abbrev ms1_10 (t : Fin cfg1.N) : Memref sig .tc .vmem S64x64 .f32 := win1_10.stage (cfg1.slots t 10)
abbrev ms1_11 (t : Fin cfg1.N) : Memref sig .tc .vmem S1x64 .f32 := win1_11.stage (cfg1.slots t 11)
abbrev ms1_12 (t : Fin cfg1.N) : Memref sig .tc .vmem S1x1x4000 .f32 := win1_12.stage (cfg1.slots t 12)

/-- The call's proof data: the arrays as found; after a point each input's buffer at its block and each output's at the point's value. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => lgtOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-! What the body leaves in each window, and what it finds in each input. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = lgtOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end

end Cert.KernelIdeal.Run

end
-- ==== Proof.Vals.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The values that the two carried calls compute

One point of the forward call and one of the backward call, as functions of the blocks that they load and of the scalars that
they carry. Each is the composition of the printed steps, so that a run of the body ends at these by unfolding. -/

/-- What the forward call carries from one block to the next: the last segment, its first logit and its running sum. -/
abbrev FwdSt (F : FTy → Type) : Type := BitVec 32 × F .f32 × F .f32
/-- What the forward call starts from. -/
def fwdInit : FwdSt F := (4294967295#32, Scalar.ofBits .f32 0x00000000#32, Scalar.ofBits .f32 0x00000000#32)

/-- The first logit of each lane's segment, looked for within the block. -/
def fwdHead (x0 : Vec F S1x1x4000 .f32) (x1 : Vec F S1x1x4000 .i32) : FVec F S1x4000 .f32 :=
  k2_pay15 (k2_pay12 (k2_pay6 (F := F) x1) (k2_pay7 x0 x1) 1#32) (k2_pay13 (k2_pay6 (F := F) x1) 1#32)
    (k2_pay14 (k2_pay6 (F := F) x1) 1#32) (Scalar.ofBits .f32 0x00000000#32)
/-- The lanes whose segment began in an earlier block. -/
def fwdMask (x1 : Vec F S1x1x4000 .i32) (s : FwdSt F) : IVec S1x4000 1 := k2_pay16 (F := F) (k2_pay3 (F := F) x1) s.1
/-- The first logit of each lane's segment. -/
def fwdC (x0 : Vec F S1x1x4000 .f32) (x1 : Vec F S1x1x4000 .i32) (s : FwdSt F) : FVec F S1x4000 .f32 :=
  k2_pay17 (fwdHead x0 x1) (fwdMask x1 s) s.2.1
/-- The shifted exponentials. -/
def fwdE (x0 : Vec F S1x1x4000 .f32) (x1 : Vec F S1x1x4000 .i32) (s : FwdSt F) : FVec F S1x4000 .f32 :=
  k2_pay18 (k2_pay2 x0) (fwdHead x0 x1) (fwdMask x1 s) s.2.1
/-- The flags after three doublings of the summing scan. -/
def fwdFlag3 (x1 : Vec F S1x1x4000 .i32) : IVec S1x4000 32 := k2_pay22 (k2_pay4 (F := F) x1)
/-- The flags after six doublings. -/
def fwdFlag6 (x1 : Vec F S1x1x4000 .i32) : IVec S1x4000 32 := k2_pay30 (fwdFlag3 x1)
/-- The summing scan after six doublings. -/
def fwdSum6 (x0 : Vec F S1x1x4000 .f32) (x1 : Vec F S1x1x4000 .i32) (s : FwdSt F) : FVec F S1x4000 .f32 :=
  k2_pay29 (k2_pay21 (k2_pay2 x0) (k2_pay4 (F := F) x1) (fwdHead x0 x1) (fwdMask x1 s) s.2.1) (fwdFlag3 x1)
    (k2_pay23 (k2_pay4 (F := F) x1)) k2_pay24
    (k2_pay25 (k2_pay2 x0) (k2_pay4 (F := F) x1) (fwdHead x0 x1) (fwdMask x1 s) s.2.1)
/-- The running sum of each lane's segment up to that lane. -/
def fwdF (x0 : Vec F S1x1x4000 .f32) (x1 : Vec F S1x1x4000 .i32) (s : FwdSt F) : FVec F S1x4000 .f32 :=
  k2_pay38 (fwdMask x1 s) (k2_pay34 (fwdFlag6 x1)) (k2_pay35 (fwdSum6 x0 x1 s) (fwdFlag6 x1) k2_pay31) k2_pay36
    (k2_pay37 (fwdFlag6 x1)) s.2.2
/-- The stored block of exponentials. -/
def fwdOutE (x0 : Vec F S1x1x4000 .f32) (x1 : Vec F S1x1x4000 .i32) (s : FwdSt F) : Vec F S1x1x4000 .f32 := k2_pay39 (fwdE x0 x1 s)
/-- The stored block of running sums. -/
def fwdOutF (x0 : Vec F S1x1x4000 .f32) (x1 : Vec F S1x1x4000 .i32) (s : FwdSt F) : Vec F S1x1x4000 .f32 :=
  k2_pay40 (fwdMask x1 s) (k2_pay34 (fwdFlag6 x1)) (k2_pay35 (fwdSum6 x0 x1 s) (fwdFlag6 x1) k2_pay31) k2_pay36
    (k2_pay37 (fwdFlag6 x1)) s.2.2
/-- What is carried to the next block. -/
def fwdNext (x0 : Vec F S1x1x4000 .f32) (x1 : Vec F S1x1x4000 .i32) (s : FwdSt F) : FwdSt F :=
  (extractAt ![0, 0, 0] (k2_pay41 (k2_pay3 (F := F) x1)) inpos_S1x1x1_p0_0_0, k2_pay42 (fwdC x0 x1 s), k2_pay1 (fwdF x0 x1 s))

/-- What the backward call carries: the first segment of the block it has left and that segment's total. -/
abbrev BwdSt (F : FTy → Type) : Type := BitVec 32 × F .f32
/-- What the backward call starts from. -/
def bwdInit : BwdSt F := (4294967295#32, Scalar.ofBits .f32 0x00000000#32)
/-- The flags after seven doublings of the backward scan, before the next shift. -/
def bwdFlag (x2 : Vec F S1x1x4000 .i32) : IVec S1x4000 32 := k3_pay11 (k3_pay6 (F := F) x2)
/-- The backward scan after the first windows. -/
def bwdV6 (x1 : Vec F S1x1x4000 .f32) (x2 : Vec F S1x1x4000 .i32) : FVec F S1x4000 .f32 :=
  k3_pay12 (k3_pay5 x1 x2) (k3_pay6 (F := F) x2) (k3_pay7 (F := F) x2)
/-- The stored block of normalised weights, before its last reshape. -/
def bwdT (x0 x1 : Vec F S1x1x4000 .f32) (x2 : Vec F S1x1x4000 .i32) (s : BwdSt F) : FVec F S1x4000 .f32 :=
  k3_pay24 (k3_pay1 x0) (k3_pay2 (F := F) x2) (k3_pay19 (bwdFlag x2) (bwdV6 x1 x2) (k3_pay13 (k3_pay6 (F := F) x2)) k3_pay14)
    (k3_pay20 (bwdFlag x2) (k3_pay13 (k3_pay6 (F := F) x2)) k3_pay14)
    (k3_pay21 (bwdFlag x2) (bwdV6 x1 x2) (k3_pay13 (k3_pay6 (F := F) x2)) k3_pay14) k3_pay22 s.1 s.2
/-- Each lane's segment total. -/
def bwdTot (x1 : Vec F S1x1x4000 .f32) (x2 : Vec F S1x1x4000 .i32) (s : BwdSt F) : FVec F S1x4000 .f32 :=
  k3_pay23 (k3_pay2 (F := F) x2) (k3_pay19 (bwdFlag x2) (bwdV6 x1 x2) (k3_pay13 (k3_pay6 (F := F) x2)) k3_pay14)
    (k3_pay20 (bwdFlag x2) (k3_pay13 (k3_pay6 (F := F) x2)) k3_pay14)
    (k3_pay21 (bwdFlag x2) (bwdV6 x1 x2) (k3_pay13 (k3_pay6 (F := F) x2)) k3_pay14) k3_pay22 s.1 s.2
/-- The stored block of normalised weights. -/
def bwdOutT (x0 x1 : Vec F S1x1x4000 .f32) (x2 : Vec F S1x1x4000 .i32) (s : BwdSt F) : Vec F S1x1x4000 .f32 :=
  k3_pay25 (k3_pay1 x0) (k3_pay2 (F := F) x2) (k3_pay19 (bwdFlag x2) (bwdV6 x1 x2) (k3_pay13 (k3_pay6 (F := F) x2)) k3_pay14)
    (k3_pay20 (bwdFlag x2) (k3_pay13 (k3_pay6 (F := F) x2)) k3_pay14)
    (k3_pay21 (bwdFlag x2) (bwdV6 x1 x2) (k3_pay13 (k3_pay6 (F := F) x2)) k3_pay14) k3_pay22 s.1 s.2
/-- The stored block of weights times node attention. -/
def bwdOutW (x0 x1 : Vec F S1x1x4000 .f32) (x2 : Vec F S1x1x4000 .i32) (x3 : Vec F S1x1x4000 .f32) (s : BwdSt F) : Vec F S1x1x4000 .f32 :=
  k3_pay26 (k3_pay1 x0) (k3_pay2 (F := F) x2) (k3_pay19 (bwdFlag x2) (bwdV6 x1 x2) (k3_pay13 (k3_pay6 (F := F) x2)) k3_pay14)
    (k3_pay20 (bwdFlag x2) (k3_pay13 (k3_pay6 (F := F) x2)) k3_pay14)
    (k3_pay21 (bwdFlag x2) (bwdV6 x1 x2) (k3_pay13 (k3_pay6 (F := F) x2)) k3_pay14) k3_pay22 s.1 s.2 x3
/-- What is carried to the next (earlier) block. -/
def bwdNext (x1 : Vec F S1x1x4000 .f32) (x2 : Vec F S1x1x4000 .i32) (s : BwdSt F) : BwdSt F :=
  (extractAt ![0, 0, 0] (k3_pay27 (k3_pay2 (F := F) x2)) inpos_S1x1x1_p0_0_0,
    k3_pay28 (k3_pay2 (F := F) x2) (k3_pay19 (bwdFlag x2) (bwdV6 x1 x2) (k3_pay13 (k3_pay6 (F := F) x2)) k3_pay14)
    (k3_pay20 (bwdFlag x2) (k3_pay13 (k3_pay6 (F := F) x2)) k3_pay14)
    (k3_pay21 (bwdFlag x2) (bwdV6 x1 x2) (k3_pay13 (k3_pay6 (F := F) x2)) k3_pay14) k3_pay22 s.1 s.2)

end Cert.KernelIdeal.Run

end
-- ==== Proof.Fwd.lean ====
module

public import proofs.«01_k».proof.Proof.Vals
public import Idealize.ShloMosaic.Lib.Pipeline.ValueKit.Acc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One point of the forward call

The body run on whole staging memrefs, at the first point, where it starts its carried scalars, and at a later one, where it finds them. -/

/-- The printed test of the first point. -/
abbrev cond2 (i : grid2.Coords) : Prop := (Scalar.cmpi .ne (Scalar.extui (Scalar.cmpi .eq (BitVec.ofNat 32 (i 0).val) 0#32)) 0#32) = 1#1

set_option maxHeartbeats 2000000 in
/-- A later point: the carried scalars are read, and left at the next state. -/
theorem fwd_next (c : Dev nD) (E : Set ℕ) (i : grid2.Coords) (arg1 : Memref sig .tc .vmem S1x1x4000 .f32) (harg1 : arg1.IsWhole) (arg2 : Memref sig .tc .vmem S1x1x4000 .i32) (harg2 : arg2.IsWhole) (arg3 : Memref sig .tc .vmem S1x1x4000 .f32) (harg3 : arg3.IsWhole) (arg4 : Memref sig .tc .vmem S1x1x4000 .f32) (harg4 : arg4.IsWhole) (arg5 : Memref sig .tc .smem S1 .i32) (harg5 : arg5.IsWhole) (arg6 : Memref sig .tc .smem S1 .f32) (harg6 : arg6.IsWhole) (arg7 : Memref sig .tc .smem S1 .f32) (harg7 : arg7.IsWhole) (hc0 : ¬ cond2 i)
    (x0 : Vec F S1x1x4000 .f32) (x1 : Vec F S1x1x4000 .i32) (s : FwdSt F) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare (fun _ => s.1 : Vec F S1 .i32) ∗ owns (c : Thread nD τ) arg6 fullShare (fun _ => s.2.1 : Vec F S1 .f32) ∗ owns (c : Thread nD τ) arg7 fullShare (fun _ => s.2.2 : Vec F S1 .f32)
        ∗ (iprop(owns (c : Thread nD τ) arg1 fullShare x0 ∗ owns (c : Thread nD τ) arg2 fullShare x1 ∗ owns (c : Thread nD τ) arg3 fullShare (fwdOutE x0 x1 s) ∗ owns (c : Thread nD τ) arg4 fullShare (fwdOutF x0 x1 s) ∗ owns (c : Thread nD τ) arg5 fullShare (fun _ => (fwdNext x0 x1 s).1 : Vec F S1 .i32) ∗ owns (c : Thread nD τ) arg6 fullShare (fun _ => (fwdNext x0 x1 s).2.1 : Vec F S1 .f32) ∗ owns (c : Thread nD τ) arg7 fullShare (fun _ => (fwdNext x0 x1 s).2.2 : Vec F S1 .f32)) -∗ K ⟨⟩))
      ⊢ wp frame (wpE (defs₀ (F := F)) Variants.none c none) E (cc2__fwd_body i arg1 harg1 arg2 harg2 arg3 harg3 arg4 harg4 arg5 harg5 arg6 harg6 arg7 harg7) K := by
  simp only [cc2__fwd_body_eq_skeleton]; unfold cc2__fwd_body_skel
  simp only [k2_part1_eq_skeleton, k2_part2_eq_skeleton, k2_part3_eq_skeleton, k2_part4_eq_skeleton, k2_part5_eq_skeleton,
    k2_part6_eq_skeleton, k2_part7_eq_skeleton]
  unfold owns
  iintro ⟨⟨%f0, %hf0, H0⟩, ⟨%f1, %hf1, H1⟩, ⟨%d2, %f2, -, H2⟩, ⟨%d3, %f3, -, H3⟩, ⟨%fs0, %hs0, HS0⟩, ⟨%fs1, %hs1, HS1⟩, ⟨%fs2, %hs2, HS2⟩, Hk⟩
  subst hf0 hf1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (View.cover_of_tiledL _ S1x1x4000.size (by sl_kernel_rfl))).trans ?_
    refine (View.canon_cons_unit_lit' _ _ _ (by decide)).trans ?_
    sl_open_run
    simp (disch := decide) only [View.readAt_eq_ld, View.ld_unit_lit', hs0, hs1, hs2]
    rfl
  isplitl [H3]
  · iexists _; isplitr
    swap; · iexact H3
    ipureintro
    refine (View.read_writes_eq_canon _ _ _ (View.cover_of_tiledL _ S1x1x4000.size (by sl_kernel_rfl))).trans ?_
    refine (View.canon_cons_unit_lit' _ _ _ (by decide)).trans ?_
    sl_open_run
    simp (disch := decide) only [View.readAt_eq_ld, View.ld_unit_lit', hs0, hs1, hs2]
    rfl
  isplitl [HS0]
  · iexists _; isplitr
    swap; · iexact HS0
    ipureintro
    refine (View.read_writes_eq_canon _ _ _ (View.cover_of_tiledL _ S1.size (by sl_kernel_rfl))).trans ?_
    refine (View.canon_cons_unit_lit' _ _ _ (by decide)).trans ?_
    sl_open_run
    simp (disch := decide) only [View.readAt_eq_ld, View.ld_unit_lit', hs0, hs1, hs2]
    rfl
  isplitl [HS1]
  · iexists _; isplitr
    swap; · iexact HS1
    ipureintro
    refine (View.read_writes_eq_canon _ _ _ (View.cover_of_tiledL _ S1.size (by sl_kernel_rfl))).trans ?_
    refine (View.canon_cons_unit_lit' _ _ _ (by decide)).trans ?_
    sl_open_run
    simp (disch := decide) only [View.readAt_eq_ld, View.ld_unit_lit', hs0, hs1, hs2]
    rfl
  iexists _; isplitr
  swap; · iexact HS2
  ipureintro
  refine (View.read_writes_eq_canon _ _ _ (View.cover_of_tiledL _ S1.size (by sl_kernel_rfl))).trans ?_
  refine (View.canon_cons_unit_lit' _ _ _ (by decide)).trans ?_
  sl_open_run
  simp (disch := decide) only [View.readAt_eq_ld, View.ld_unit_lit', hs0, hs1, hs2]
  rfl

set_option maxHeartbeats 2000000 in
/-- The first point: the carried scalars are set before they are read. -/
theorem fwd_first (c : Dev nD) (E : Set ℕ) (i : grid2.Coords) (arg1 : Memref sig .tc .vmem S1x1x4000 .f32) (harg1 : arg1.IsWhole) (arg2 : Memref sig .tc .vmem S1x1x4000 .i32) (harg2 : arg2.IsWhole) (arg3 : Memref sig .tc .vmem S1x1x4000 .f32) (harg3 : arg3.IsWhole) (arg4 : Memref sig .tc .vmem S1x1x4000 .f32) (harg4 : arg4.IsWhole) (arg5 : Memref sig .tc .smem S1 .i32) (harg5 : arg5.IsWhole) (arg6 : Memref sig .tc .smem S1 .f32) (harg6 : arg6.IsWhole) (arg7 : Memref sig .tc .smem S1 .f32) (harg7 : arg7.IsWhole) (hc0 :  cond2 i)
    (x0 : Vec F S1x1x4000 .f32) (x1 : Vec F S1x1x4000 .i32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (fwdOutE x0 x1 fwdInit) ∗ owns (c : Thread nD τ) arg4 fullShare (fwdOutF x0 x1 fwdInit) ∗ owns (c : Thread nD τ) arg5 fullShare (fun _ => (fwdNext x0 x1 fwdInit).1 : Vec F S1 .i32) ∗ owns (c : Thread nD τ) arg6 fullShare (fun _ => (fwdNext x0 x1 fwdInit).2.1 : Vec F S1 .f32) ∗ owns (c : Thread nD τ) arg7 fullShare (fun _ => (fwdNext x0 x1 fwdInit).2.2 : Vec F S1 .f32)) -∗ K ⟨⟩))
      ⊢ wp frame (wpE (defs₀ (F := F)) Variants.none c none) E (cc2__fwd_body i arg1 harg1 arg2 harg2 arg3 harg3 arg4 harg4 arg5 harg5 arg6 harg6 arg7 harg7) K := by
  simp only [cc2__fwd_body_eq_skeleton]; unfold cc2__fwd_body_skel
  simp only [k2_part1_eq_skeleton, k2_part2_eq_skeleton, k2_part3_eq_skeleton, k2_part4_eq_skeleton, k2_part5_eq_skeleton,
    k2_part6_eq_skeleton, k2_part7_eq_skeleton]
  unfold owns
  iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, ⟨%ds2, %fs2, -, HS2⟩, Hk⟩
  subst hf0 hf1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (View.cover_of_tiledL _ S1x1x4000.size (by sl_kernel_rfl))).trans ?_
    refine (View.canon_cons_unit_lit' _ _ _ (by decide)).trans ?_
    sl_open_run
    simp (disch := decide) only [View.readAt_eq_ld, View.ld_unit_lit', View.readCov_unit_lit', View.readCov_cons_unit_lit']
    rfl
  isplitl [H3]
  · iexists _; isplitr
    swap; · iexact H3
    ipureintro
    refine (View.read_writes_eq_canon _ _ _ (View.cover_of_tiledL _ S1x1x4000.size (by sl_kernel_rfl))).trans ?_
    refine (View.canon_cons_unit_lit' _ _ _ (by decide)).trans ?_
    sl_open_run
    simp (disch := decide) only [View.readAt_eq_ld, View.ld_unit_lit', View.readCov_unit_lit', View.readCov_cons_unit_lit']
    rfl
  isplitl [HS0]
  · iexists _; isplitr
    swap; · iexact HS0
    ipureintro
    refine (View.read_writes_eq_canon _ _ _ (View.cover_of_tiledL _ S1.size (by sl_kernel_rfl))).trans ?_
    refine (View.canon_cons_unit_lit' _ _ _ (by decide)).trans ?_
    sl_open_run
    simp (disch := decide) only [View.readAt_eq_ld, View.ld_unit_lit', View.readCov_unit_lit', View.readCov_cons_unit_lit']
    rfl
  isplitl [HS1]
  · iexists _; isplitr
    swap; · iexact HS1
    ipureintro
    refine (View.read_writes_eq_canon _ _ _ (View.cover_of_tiledL _ S1.size (by sl_kernel_rfl))).trans ?_
    refine (View.canon_cons_unit_lit' _ _ _ (by decide)).trans ?_
    sl_open_run
    simp (disch := decide) only [View.readAt_eq_ld, View.ld_unit_lit', View.readCov_unit_lit', View.readCov_cons_unit_lit']
    rfl
  iexists _; isplitr
  swap; · iexact HS2
  ipureintro
  refine (View.read_writes_eq_canon _ _ _ (View.cover_of_tiledL _ S1.size (by sl_kernel_rfl))).trans ?_
  refine (View.canon_cons_unit_lit' _ _ _ (by decide)).trans ?_
  sl_open_run
  simp (disch := decide) only [View.readAt_eq_ld, View.ld_unit_lit', View.readCov_unit_lit', View.readCov_cons_unit_lit']
  rfl

end Cert.KernelIdeal.Run

end
-- ==== Proof.FwdCall.lean ====
module

public import proofs.«01_k».proof.Proof.Fwd
public import Idealize.ShloMosaic.Lib.Pipeline.ValueKit.Acc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The forward call, at the contents that it finds

The blocks of its arrays, the carried scalars before each point, the invariant that holds them, and the body's obligation at every point. -/

section
variable (V : (c : Dev nD) → (b : Ref sig .tc) → Buf (Elt F) ((c : Thread nD τ).loc b))

/-- Window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! Each window's staging memref at a point, and the scratch operands. -/
abbrev ms2_0 (t : Fin cfg2.N) : Memref sig .tc .vmem S1x1x4000 .f32 := win2_0.stage (cfg2.slots t 0)
abbrev ms2_1 (t : Fin cfg2.N) : Memref sig .tc .vmem S1x1x4000 .i32 := win2_1.stage (cfg2.slots t 1)
abbrev ms2_2 (t : Fin cfg2.N) : Memref sig .tc .vmem S1x1x4000 .f32 := win2_2.stage (cfg2.slots t 2)
abbrev ms2_3 (t : Fin cfg2.N) : Memref sig .tc .vmem S1x1x4000 .f32 := win2_3.stage (cfg2.slots t 3)
abbrev scM2_0 : Memref sig .tc .smem S1 .i32 := Memref.whole cc2_scratch0
abbrev scM2_1 : Memref sig .tc .smem S1 .f32 := Memref.whole cc2_scratch1
abbrev scM2_2 : Memref sig .tc .smem S1 .f32 := Memref.whole cc2_scratch2

/-- What the launch hands the call, with the scratch operands apart. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ Pipeline.scopedRestBut spec2 c [cc2_scratch0, cc2_scratch1, cc2_scratch2]) ∗ (∃ r, prngReg c r)) := by
  unfold Pipeline.ΦA; rw [scopedRest2_split]; simp only [scM2_0, scM2_1, scM2_2, owns_whole]; try rfl

/-- The carried scalars before point `n`. -/
def fwdSt (c : Dev nD) : (n : ℕ) → n ≤ cfg2.N → FwdSt F
  | 0, _ => fwdInit
  | n + 1, h => fwdNext (iblk2 V c 0 ⟨n, h⟩) (iblk2 V c 1 ⟨n, h⟩) (fwdSt c n (Nat.le_of_lt h))

/-- The invariant before point `n`: what the launch hands over at first, then the scratch at the carried scalars. -/
def PhiS2 (c : Dev nD) : (n : ℕ) → n ≤ cfg2.N → sProp 𝕄
  | 0, _ => Pipeline.ΦA spec2 c
  | n + 1, h => iprop(iprop(iprop(owns (c : Thread nD τ) scM2_0 fullShare (fun _ => (fwdSt V c (n + 1) h).1 : Vec F S1 .i32) ∗ owns (c : Thread nD τ) scM2_1 fullShare (fun _ => (fwdSt V c (n + 1) h).2.1 : Vec F S1 .f32) ∗ owns (c : Thread nD τ) scM2_2 fullShare (fun _ => (fwdSt V c (n + 1) h).2.2 : Vec F S1 .f32)) ∗ Pipeline.scopedRestBut spec2 c [cc2_scratch0, cc2_scratch1, cc2_scratch2]) ∗ (∃ r, prngReg c r))

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = iprop(iprop(iprop(owns (c : Thread nD τ) scM2_0 fullShare (fun _ => (fwdSt V c n h).1 : Vec F S1 .i32) ∗ owns (c : Thread nD τ) scM2_1 fullShare (fun _ => (fwdSt V c n h).2.1 : Vec F S1 .f32) ∗ owns (c : Thread nD τ) scM2_2 fullShare (fun _ => (fwdSt V c n h).2.2 : Vec F S1 .f32)) ∗ Pipeline.scopedRestBut spec2 c [cc2_scratch0, cc2_scratch1, cc2_scratch2]) ∗ (∃ r, prngReg c r)) := by
  cases n with
  | zero => exact absurd rfl hz
  | succ n => rfl

theorem fwdSt_zero (c : Dev nD) (n : ℕ) (h : n ≤ cfg2.N) (hz : n = 0) : fwdSt V c n h = fwdInit := by
  subst hz; rfl

/-- The call's proof data: the arrays as found; after a point each input's buffer at its block and each output's at the point's value. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => fwdOutE (iblk2 V c 0 t) (iblk2 V c 1 t) (fwdSt V c t.val (Nat.le_of_lt t.isLt))
    | ⟨3, _⟩ => fwdOutF (iblk2 V c 0 t) (iblk2 V c 1 t) (fwdSt V c t.val (Nat.le_of_lt t.isLt))
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-! What the body leaves in each window, and what it finds in each input. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = fwdOutE (iblk2 V c 0 t) (iblk2 V c 1 t) (fwdSt V c t.val (Nat.le_of_lt t.isLt)) := by dsimp only [dat2]
theorem after2_3 (c : Dev nD) (t : Fin cfg2.N) : (dat2 V c).after 3 t = fwdOutF (iblk2 V c 0 t) (iblk2 V c 1 t) (fwdSt V c t.val (Nat.le_of_lt t.isLt)) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The printed test holds at the first point alone. -/
theorem hcond2 (t : Fin cfg2.N) : cond2 (grid2.coords t) ↔ t.val = 0 := by
  have ht : t.val < 80 := Nat.lt_of_lt_of_eq t.isLt N_2
  have e0 : (grid2.coords t 0).val = t.val / 1 % 80 := Pipeline.Grid.coords_val t 0 (by decide) rfl
  simp only [cond2, e0]
  word_cmp

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))
/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 3200000 in
/-- The body at any point: the first sets the carried scalars, a later one finds them where the one before left them. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    after2_0, after2_1, after2_2, after2_3]
  rw [show (dat2 V c).Φ t.succ = PhiS2 V c (t.val + 1) t.isLt from rfl, PhiS2_pos V c (t.val + 1) t.isLt (Nat.succ_ne_zero _)]
  rw [show fwdSt V c (t.val + 1) t.isLt = fwdNext (iblk2 V c 0 t) (iblk2 V c 1 t) (fwdSt V c t.val (Nat.le_of_lt t.isLt)) from rfl]
  by_cases h0 : t.val = 0
  · rw [PhiS2_castSucc V c t, PhiS2_zero V c _ _ h0, PhiA2_eq, fwdSt_zero V c _ _ h0]
    iintro ⟨⟨⟨⟨HS0, HS1, HS2⟩, HR⟩, Hg⟩, Ho, ⟨%d0, H0⟩, ⟨%d1, H1⟩, ⟨%d2, H2⟩, ⟨%d3, H3⟩⟩
    iapply (fwd_first c Set.univ (grid2.coords t) _ _ _ _ _ _ _ _ _ _ _ _ _ _ ((hcond2 t).mpr h0) (iblk2 V c 0 t) (iblk2 V c 1 t) _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 HR Hg]
    · isplitl [HS0 HS1 HS2 HR]
      · isplitl [HS0 HS1 HS2]
        · isplitl [HS0]; · iexact HS0
          isplitl [HS1]; · iexact HS1
          iexact HS2
        iexact HR
      iexact Hg
    isplitl [Ho]; · iexact Ho
    isplitl [H0]; · iexact H0
    isplitl [H1]; · iexact H1
    isplitl [H2]; · iexact H2
    iexact H3
  · rw [PhiS2_castSucc V c t, PhiS2_pos V c _ _ h0]
    iintro ⟨⟨⟨⟨HS0, HS1, HS2⟩, HR⟩, Hg⟩, Ho, ⟨%d0, H0⟩, ⟨%d1, H1⟩, ⟨%d2, H2⟩, ⟨%d3, H3⟩⟩
    iapply (fwd_next c Set.univ (grid2.coords t) _ _ _ _ _ _ _ _ _ _ _ _ _ _ (fun h => h0 ((hcond2 t).mp h)) (iblk2 V c 0 t) (iblk2 V c 1 t) _ _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 HR Hg]
    · isplitl [HS0 HS1 HS2 HR]
      · isplitl [HS0 HS1 HS2]
        · isplitl [HS0]; · iexact HS0
          isplitl [HS1]; · iexact HS1
          iexact HS2
        iexact HR
      iexact Hg
    isplitl [Ho]; · iexact Ho
    isplitl [H0]; · iexact H0
    isplitl [H1]; · iexact H1
    isplitl [H2]; · iexact H2
    iexact H3

theorem defs₀_row2 (t : Fin cfg2.N) :
    defs₀ (F := F) .tc cfg2.body (cfg2.bodyArgs t (cfg2.slots t)) = bodyAt2 t := by
  unfold defs₀; rw [Defs.onTc_tc]

/-- The body's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- The invariant before the first point is what the launch hands over, -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- and after the last it gives that back, the carried scalars forgotten. -/
theorem hout2 (c : Dev nD) : (dat2 V c).Φ (Fin.last cfg2.N) ⊢ Pipeline.ΦA spec2 c := by
  rw [show (dat2 V c).Φ (Fin.last cfg2.N) = PhiS2 V c cfg2.N (Nat.le_refl _) from rfl, PhiS2_pos V c _ _ (by rw [show cfg2.N = 80 from N_2]; decide), PhiA2_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end

end Cert.KernelIdeal.Run

end
-- ==== Proof.Bwd.lean ====
module

public import proofs.«01_k».proof.Proof.Vals
public import Idealize.ShloMosaic.Lib.Pipeline.ValueKit.Acc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One point of the backward call

The body run on whole staging memrefs, at the first point, where it starts its carried scalars, and at a later one, where it finds them. -/

/-- The printed test of the first point. -/
abbrev cond3 (i : grid3.Coords) : Prop := (Scalar.cmpi .ne (Scalar.extui (Scalar.cmpi .eq (BitVec.ofNat 32 (i 0).val) 0#32)) 0#32) = 1#1

set_option maxHeartbeats 2000000 in
/-- A later point: the carried scalars are read, and left at the next state. -/
theorem bwd_next (c : Dev nD) (E : Set ℕ) (i : grid3.Coords) (arg1 : Memref sig .tc .vmem S1x1x4000 .f32) (harg1 : arg1.IsWhole) (arg2 : Memref sig .tc .vmem S1x1x4000 .f32) (harg2 : arg2.IsWhole) (arg3 : Memref sig .tc .vmem S1x1x4000 .i32) (harg3 : arg3.IsWhole) (arg4 : Memref sig .tc .vmem S1x1x4000 .f32) (harg4 : arg4.IsWhole) (arg5 : Memref sig .tc .vmem S1x1x4000 .f32) (harg5 : arg5.IsWhole) (arg6 : Memref sig .tc .vmem S1x1x4000 .f32) (harg6 : arg6.IsWhole) (arg7 : Memref sig .tc .smem S1 .i32) (harg7 : arg7.IsWhole) (arg8 : Memref sig .tc .smem S1 .f32) (harg8 : arg8.IsWhole) (hc0 : ¬ cond3 i)
    (x0 x1 : Vec F S1x1x4000 .f32) (x2 : Vec F S1x1x4000 .i32) (x3 : Vec F S1x1x4000 .f32) (s : BwdSt F) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare (fun _ => s.1 : Vec F S1 .i32) ∗ owns (c : Thread nD τ) arg8 fullShare (fun _ => s.2 : Vec F S1 .f32)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (bwdOutT x0 x1 x2 s) ∗ owns (c : Thread nD τ) arg6 fullShare (bwdOutW x0 x1 x2 x3 s) ∗ owns (c : Thread nD τ) arg7 fullShare (fun _ => (bwdNext x1 x2 s).1 : Vec F S1 .i32) ∗ owns (c : Thread nD τ) arg8 fullShare (fun _ => (bwdNext x1 x2 s).2 : Vec F S1 .f32)) -∗ K ⟨⟩))
      ⊢ wp frame (wpE (defs₀ (F := F)) Variants.none c none) E (cc3__bwd_body i arg1 harg1 arg2 harg2 arg3 harg3 arg4 harg4 arg5 harg5 arg6 harg6 arg7 harg7 arg8 harg8) K := by
  simp only [cc3__bwd_body_eq_skeleton]; unfold cc3__bwd_body_skel
  simp only [k3_part1_eq_skeleton, k3_part2_eq_skeleton, k3_part3_eq_skeleton, k3_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, ⟨%fs1, %hs1, HS1⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (View.cover_of_tiledL _ S1x1x4000.size (by sl_kernel_rfl))).trans ?_
    refine (View.canon_cons_unit_lit' _ _ _ (by decide)).trans ?_
    sl_open_run
    simp (disch := decide) only [View.readAt_eq_ld, View.ld_unit_lit', hs0, hs1]
    rfl
  isplitl [H5]
  · iexists _; isplitr
    swap; · iexact H5
    ipureintro
    refine (View.read_writes_eq_canon _ _ _ (View.cover_of_tiledL _ S1x1x4000.size (by sl_kernel_rfl))).trans ?_
    refine (View.canon_cons_unit_lit' _ _ _ (by decide)).trans ?_
    sl_open_run
    simp (disch := decide) only [View.readAt_eq_ld, View.ld_unit_lit', hs0, hs1]
    rfl
  isplitl [HS0]
  · iexists _; isplitr
    swap; · iexact HS0
    ipureintro
    refine (View.read_writes_eq_canon _ _ _ (View.cover_of_tiledL _ S1.size (by sl_kernel_rfl))).trans ?_
    refine (View.canon_cons_unit_lit' _ _ _ (by decide)).trans ?_
    sl_open_run
    simp (disch := decide) only [View.readAt_eq_ld, View.ld_unit_lit', hs0, hs1]
    rfl
  iexists _; isplitr
  swap; · iexact HS1
  ipureintro
  refine (View.read_writes_eq_canon _ _ _ (View.cover_of_tiledL _ S1.size (by sl_kernel_rfl))).trans ?_
  refine (View.canon_cons_unit_lit' _ _ _ (by decide)).trans ?_
  sl_open_run
  simp (disch := decide) only [View.readAt_eq_ld, View.ld_unit_lit', hs0, hs1]
  rfl

set_option maxHeartbeats 2000000 in
/-- The first point: the carried scalars are set before they are read. -/
theorem bwd_first (c : Dev nD) (E : Set ℕ) (i : grid3.Coords) (arg1 : Memref sig .tc .vmem S1x1x4000 .f32) (harg1 : arg1.IsWhole) (arg2 : Memref sig .tc .vmem S1x1x4000 .f32) (harg2 : arg2.IsWhole) (arg3 : Memref sig .tc .vmem S1x1x4000 .i32) (harg3 : arg3.IsWhole) (arg4 : Memref sig .tc .vmem S1x1x4000 .f32) (harg4 : arg4.IsWhole) (arg5 : Memref sig .tc .vmem S1x1x4000 .f32) (harg5 : arg5.IsWhole) (arg6 : Memref sig .tc .vmem S1x1x4000 .f32) (harg6 : arg6.IsWhole) (arg7 : Memref sig .tc .smem S1 .i32) (harg7 : arg7.IsWhole) (arg8 : Memref sig .tc .smem S1 .f32) (harg8 : arg8.IsWhole) (hc0 : cond3 i)
    (x0 x1 : Vec F S1x1x4000 .f32) (x2 : Vec F S1x1x4000 .i32) (x3 : Vec F S1x1x4000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (bwdOutT x0 x1 x2 bwdInit) ∗ owns (c : Thread nD τ) arg6 fullShare (bwdOutW x0 x1 x2 x3 bwdInit) ∗ owns (c : Thread nD τ) arg7 fullShare (fun _ => (bwdNext x1 x2 bwdInit).1 : Vec F S1 .i32) ∗ owns (c : Thread nD τ) arg8 fullShare (fun _ => (bwdNext x1 x2 bwdInit).2 : Vec F S1 .f32)) -∗ K ⟨⟩))
      ⊢ wp frame (wpE (defs₀ (F := F)) Variants.none c none) E (cc3__bwd_body i arg1 harg1 arg2 harg2 arg3 harg3 arg4 harg4 arg5 harg5 arg6 harg6 arg7 harg7 arg8 harg8) K := by
  simp only [cc3__bwd_body_eq_skeleton]; unfold cc3__bwd_body_skel
  simp only [k3_part1_eq_skeleton, k3_part2_eq_skeleton, k3_part3_eq_skeleton, k3_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (View.cover_of_tiledL _ S1x1x4000.size (by sl_kernel_rfl))).trans ?_
    refine (View.canon_cons_unit_lit' _ _ _ (by decide)).trans ?_
    sl_open_run
    simp (disch := decide) only [View.readAt_eq_ld, View.ld_unit_lit', View.readCov_unit_lit', View.readCov_cons_unit_lit']
    rfl
  isplitl [H5]
  · iexists _; isplitr
    swap; · iexact H5
    ipureintro
    refine (View.read_writes_eq_canon _ _ _ (View.cover_of_tiledL _ S1x1x4000.size (by sl_kernel_rfl))).trans ?_
    refine (View.canon_cons_unit_lit' _ _ _ (by decide)).trans ?_
    sl_open_run
    simp (disch := decide) only [View.readAt_eq_ld, View.ld_unit_lit', View.readCov_unit_lit', View.readCov_cons_unit_lit']
    rfl
  isplitl [HS0]
  · iexists _; isplitr
    swap; · iexact HS0
    ipureintro
    refine (View.read_writes_eq_canon _ _ _ (View.cover_of_tiledL _ S1.size (by sl_kernel_rfl))).trans ?_
    refine (View.canon_cons_unit_lit' _ _ _ (by decide)).trans ?_
    sl_open_run
    simp (disch := decide) only [View.readAt_eq_ld, View.ld_unit_lit', View.readCov_unit_lit', View.readCov_cons_unit_lit']
    rfl
  iexists _; isplitr
  swap; · iexact HS1
  ipureintro
  refine (View.read_writes_eq_canon _ _ _ (View.cover_of_tiledL _ S1.size (by sl_kernel_rfl))).trans ?_
  refine (View.canon_cons_unit_lit' _ _ _ (by decide)).trans ?_
  sl_open_run
  simp (disch := decide) only [View.readAt_eq_ld, View.ld_unit_lit', View.readCov_unit_lit', View.readCov_cons_unit_lit']
  rfl

end Cert.KernelIdeal.Run

end
-- ==== Proof.BwdCall.lean ====
module

public import proofs.«01_k».proof.Proof.Bwd
public import Idealize.ShloMosaic.Lib.Pipeline.ValueKit.Acc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The backward call, at the contents that it finds

The blocks of its arrays, the carried scalars before each point, the invariant that holds them, and the body's obligation at every point. -/

section
variable (V : (c : Dev nD) → (b : Ref sig .tc) → Buf (Elt F) ((c : Thread nD τ).loc b))

/-- Window `w`'s block at point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! Each window's staging memref at a point, and the scratch operands. -/
abbrev ms3_0 (t : Fin cfg3.N) : Memref sig .tc .vmem S1x1x4000 .f32 := win3_0.stage (cfg3.slots t 0)
abbrev ms3_1 (t : Fin cfg3.N) : Memref sig .tc .vmem S1x1x4000 .f32 := win3_1.stage (cfg3.slots t 1)
abbrev ms3_2 (t : Fin cfg3.N) : Memref sig .tc .vmem S1x1x4000 .i32 := win3_2.stage (cfg3.slots t 2)
abbrev ms3_3 (t : Fin cfg3.N) : Memref sig .tc .vmem S1x1x4000 .f32 := win3_3.stage (cfg3.slots t 3)
abbrev ms3_4 (t : Fin cfg3.N) : Memref sig .tc .vmem S1x1x4000 .f32 := win3_4.stage (cfg3.slots t 4)
abbrev ms3_5 (t : Fin cfg3.N) : Memref sig .tc .vmem S1x1x4000 .f32 := win3_5.stage (cfg3.slots t 5)
abbrev scM3_0 : Memref sig .tc .smem S1 .i32 := Memref.whole cc3_scratch0
abbrev scM3_1 : Memref sig .tc .smem S1 .f32 := Memref.whole cc3_scratch1

/-- What the launch hands the call, with the scratch operands apart. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ Pipeline.scopedRestBut spec3 c [cc3_scratch0, cc3_scratch1]) ∗ (∃ r, prngReg c r)) := by
  unfold Pipeline.ΦA; rw [scopedRest3_split]; simp only [scM3_0, scM3_1, owns_whole]; try rfl

/-- The carried scalars before point `n`. -/
def bwdSt (c : Dev nD) : (n : ℕ) → n ≤ cfg3.N → BwdSt F
  | 0, _ => bwdInit
  | n + 1, h => bwdNext (iblk3 V c 1 ⟨n, h⟩) (iblk3 V c 2 ⟨n, h⟩) (bwdSt c n (Nat.le_of_lt h))

/-- The invariant before point `n`: what the launch hands over at first, then the scratch at the carried scalars. -/
def PhiS3 (c : Dev nD) : (n : ℕ) → n ≤ cfg3.N → sProp 𝕄
  | 0, _ => Pipeline.ΦA spec3 c
  | n + 1, h => iprop(iprop(iprop(owns (c : Thread nD τ) scM3_0 fullShare (fun _ => (bwdSt V c (n + 1) h).1 : Vec F S1 .i32) ∗ owns (c : Thread nD τ) scM3_1 fullShare (fun _ => (bwdSt V c (n + 1) h).2 : Vec F S1 .f32)) ∗ Pipeline.scopedRestBut spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) :
    PhiS3 V c n h = iprop(iprop(iprop(owns (c : Thread nD τ) scM3_0 fullShare (fun _ => (bwdSt V c n h).1 : Vec F S1 .i32) ∗ owns (c : Thread nD τ) scM3_1 fullShare (fun _ => (bwdSt V c n h).2 : Vec F S1 .f32)) ∗ Pipeline.scopedRestBut spec3 c [cc3_scratch0, cc3_scratch1]) ∗ (∃ r, prngReg c r)) := by
  cases n with
  | zero => exact absurd rfl hz
  | succ n => rfl

theorem bwdSt_zero (c : Dev nD) (n : ℕ) (h : n ≤ cfg3.N) (hz : n = 0) : bwdSt V c n h = bwdInit := by
  subst hz; rfl

/-- The call's proof data: the arrays as found; after a point each input's buffer at its block and each output's at the point's value. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => bwdOutT (iblk3 V c 0 t) (iblk3 V c 1 t) (iblk3 V c 2 t) (bwdSt V c t.val (Nat.le_of_lt t.isLt))
    | ⟨5, _⟩ => bwdOutW (iblk3 V c 0 t) (iblk3 V c 1 t) (iblk3 V c 2 t) (iblk3 V c 3 t) (bwdSt V c t.val (Nat.le_of_lt t.isLt))
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; exact Pipeline.Dat.Φ_castSucc (PhiS3 V c) t

/-! What the body leaves in each window, and what it finds in each input. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = bwdOutT (iblk3 V c 0 t) (iblk3 V c 1 t) (iblk3 V c 2 t) (bwdSt V c t.val (Nat.le_of_lt t.isLt)) := by dsimp only [dat3]
theorem after3_5 (c : Dev nD) (t : Fin cfg3.N) : (dat3 V c).after 5 t = bwdOutW (iblk3 V c 0 t) (iblk3 V c 1 t) (iblk3 V c 2 t) (iblk3 V c 3 t) (bwdSt V c t.val (Nat.le_of_lt t.isLt)) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- The printed test holds at the first point alone. -/
theorem hcond3 (t : Fin cfg3.N) : cond3 (grid3.coords t) ↔ t.val = 0 := by
  have ht : t.val < 80 := Nat.lt_of_lt_of_eq t.isLt N_3
  have e0 : (grid3.coords t 0).val = t.val / 1 % 80 := Pipeline.Grid.coords_val t 0 (by decide) rfl
  simp only [cond3, e0]
  word_cmp

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))
/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 3200000 in
/-- The body at any point: the first sets the carried scalars, a later one finds them where the one before left them. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    after3_0, after3_1, after3_2, after3_3, after3_4, after3_5]
  rw [show (dat3 V c).Φ t.succ = PhiS3 V c (t.val + 1) t.isLt from rfl, PhiS3_pos V c (t.val + 1) t.isLt (Nat.succ_ne_zero _)]
  rw [show bwdSt V c (t.val + 1) t.isLt = bwdNext (iblk3 V c 1 t) (iblk3 V c 2 t) (bwdSt V c t.val (Nat.le_of_lt t.isLt)) from rfl]
  by_cases h0 : t.val = 0
  · rw [PhiS3_castSucc V c t, PhiS3_zero V c _ _ h0, PhiA3_eq, bwdSt_zero V c _ _ h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply (bwd_first c Set.univ (grid3.coords t) _ _ _ _ _ _ _ _ _ _ _ _ _ _ _ _ ((hcond3 t).mpr h0) (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS3_castSucc V c t, PhiS3_pos V c _ _ h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply (bwd_next c Set.univ (grid3.coords t) _ _ _ _ _ _ _ _ _ _ _ _ _ _ _ _ (fun h => h0 ((hcond3 t).mp h)) (iblk3 V c 0 t) (iblk3 V c 1 t) (iblk3 V c 2 t) (iblk3 V c 3 t) _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row3 (t : Fin cfg3.N) :
    defs₀ (F := F) .tc cfg3.body (cfg3.bodyArgs t (cfg3.slots t)) = bodyAt3 t := by
  unfold defs₀; rw [Defs.onTc_tc]

/-- The body's obligation at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- The invariant before the first point is what the launch hands over, -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- and after the last it gives that back, the carried scalars forgotten. -/
theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiS3_pos V c _ _ (by rw [show cfg3.N = 80 from N_3]; decide), PhiA3_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end

end Cert.KernelIdeal.Run

end
-- ==== Proof.Bounds.lean ====
module

public import proofs.«01_k».proof.Proof.TablesCall
public import proofs.«01_k».proof.Proof.LogitsCall
public import proofs.«01_k».proof.Proof.FwdCall
public import proofs.«01_k».proof.Proof.BwdCall
public import Idealize.ShloMosaic.Lib.Pipeline.ValueKit.Acc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents between the parts of the program

From the launch through the host stretches and the four calls to the return, and the arguments unchanged throughout. -/

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-- This stretch of host operations allocates no buffer. -/
theorem hostOps0_fresh : (hostOps0 : List (HloOp τ sig (Elt F))).Forall fun op => op.fresh = ∅ := by
  simp only [List.Forall]; repeat' constructor
/-- What the stretch writes. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

/-- This stretch of host operations allocates no buffer. -/
theorem hostOps1_fresh : (hostOps1 : List (HloOp τ sig (Elt F))).Forall fun op => op.fresh = ∅ := by
  simp only [List.Forall]; repeat' constructor
/-- What the stretch writes. -/
abbrev hostOps1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v46]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

/-- This stretch of host operations allocates no buffer. -/
theorem hostOps1_1_fresh : (hostOps1_1 : List (HloOp τ sig (Elt F))).Forall fun op => op.fresh = ∅ := by
  simp only [List.Forall]; repeat' constructor
/-- What the stretch writes. -/
abbrev hostOps1_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v47]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

/-- This stretch of host operations allocates no buffer. -/
theorem hostOps1_2_fresh : (hostOps1_2 : List (HloOp τ sig (Elt F))).Forall fun op => op.fresh = ∅ := by
  simp only [List.Forall]; repeat' constructor
/-- What the stretch writes. -/
abbrev hostOps1_2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v48]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

/-- This stretch of host operations allocates no buffer. -/
theorem hostOps1_3_fresh : (hostOps1_3 : List (HloOp τ sig (Elt F))).Forall fun op => op.fresh = ∅ := by
  simp only [List.Forall]; repeat' constructor
/-- What the stretch writes. -/
abbrev hostOps1_3_W : List (Ref sig .tc) := [main_v49, main_v50, main_v51, main_v52]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_3_args : ∀ a ∈ argRefs, a ∉ hostOps1_3_W := ListAll.forall_mem_of_all_decide (by decide +kernel)

/-- This stretch of host operations allocates no buffer. -/
theorem hostOps2_fresh : (hostOps2 : List (HloOp τ sig (Elt F))).Forall fun op => op.fresh = ∅ := by
  simp only [List.Forall]; repeat' constructor
/-- What the stretch writes. -/
abbrev hostOps2_W : List (Ref sig .tc) := [main_v54, main_v55]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- This stretch of host operations allocates no buffer. -/
theorem hostOps4_fresh : (hostOps4 : List (HloOp τ sig (Elt F))).Forall fun op => op.fresh = ∅ := by
  simp only [List.Forall]; repeat' constructor
/-- What the stretch writes. -/
abbrev hostOps4_W : List (Ref sig .tc) := [main_v58, main_v59, main_cst, main_v60, main_v61, main_v62, main_v63, main_v64, main_v65, main_cst_0, main_v66, main_v67, main_v68]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

/-- The buffers at the launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers after the next host stretch. -/
abbrev W1 : Dev nD → Valuation τ sig (Elt F) := fun c => StableHlo.after hostOps0 (W0 m ρ c)
/-- A buffer that the stretch or the call does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers after the next call: its arrays at what it leaves, every other buffer as it found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that the stretch or the call does not write keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- An argument among the call's arrays is one of its inputs. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the next host stretch. -/
abbrev W3 : Dev nD → Valuation τ sig (Elt F) := fun c => StableHlo.after hostOps1 (W2 m ρ c)
/-- A buffer that the stretch or the call does not write keeps its contents. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The buffers after the next host stretch. -/
abbrev W4 : Dev nD → Valuation τ sig (Elt F) := fun c => StableHlo.after hostOps1_1 (W3 m ρ c)
/-- A buffer that the stretch or the call does not write keeps its contents. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- The buffers after the next host stretch. -/
abbrev W5 : Dev nD → Valuation τ sig (Elt F) := fun c => StableHlo.after hostOps1_2 (W4 m ρ c)
/-- A buffer that the stretch or the call does not write keeps its contents. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- The buffers after the next host stretch. -/
abbrev W6 : Dev nD → Valuation τ sig (Elt F) := fun c => StableHlo.after hostOps1_3 (W5 m ρ c)
/-- A buffer that the stretch or the call does not write keeps its contents. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
abbrev V6 : (c : Dev nD) → (b : Ref sig .tc) → Buf (Elt F) ((c : Thread nD τ).loc b) := fun c b => W6 m ρ c b
/-- The buffers after the next call: its arrays at what it leaves, every other buffer as it found it. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- A buffer that the stretch or the call does not write keeps its contents. -/
theorem W7_of (c : Dev nD) (r : Ref sig .tc) (h : ∀ w : Fin cfg1.W, Pipeline.arrRef spec1 w = r → (cfg1.win w).isOut = false) :
    W7 m ρ c (Proc.devRef .tc r) = W6 m ρ c (Proc.devRef .tc r) := by
  by_cases hw : ∃ w : Fin cfg1.W, Pipeline.arrRef spec1 w = r
  · obtain ⟨w, rfl⟩ := hw
    exact (W7_arr m ρ c w).trans (((dat1 (V6 m ρ) c).arrAt_in w (h w rfl) _).trans (A_eq1 (V6 m ρ) c w))
  · exact W7_of_ne m ρ c r fun w e => hw ⟨w, e⟩
/-- An argument among the call's arrays is one of its inputs. -/
theorem argsIn1 : ∀ a ∈ argRefs, ∀ w : Fin cfg1.W, Pipeline.arrRef spec1 w = a → (cfg1.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn1 a ha)).trans (W6_args m ρ c a ha)
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- The buffers after the next host stretch. -/
abbrev W8 : Dev nD → Valuation τ sig (Elt F) := fun c => StableHlo.after hostOps2 (W7 m ρ c)
/-- A buffer that the stretch or the call does not write keeps its contents. -/
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h
theorem W8_args (c : Dev nD) : ∀ a ∈ argRefs, W8 m ρ c (Proc.devRef .tc a) = m ((c : Thread nD τ).loc a) :=
  fun a ha => (W8_of m ρ c a (hostOps2_args a ha)).trans (W7_args m ρ c a ha)
abbrev V8 : (c : Dev nD) → (b : Ref sig .tc) → Buf (Elt F) ((c : Thread nD τ).loc b) := fun c b => W8 m ρ c b
/-- The buffers after the next call: its arrays at what it leaves, every other buffer as it found it. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- A buffer that the stretch or the call does not write keeps its contents. -/
theorem W9_of (c : Dev nD) (r : Ref sig .tc) (h : ∀ w : Fin cfg2.W, Pipeline.arrRef spec2 w = r → (cfg2.win w).isOut = false) :
    W9 m ρ c (Proc.devRef .tc r) = W8 m ρ c (Proc.devRef .tc r) := by
  by_cases hw : ∃ w : Fin cfg2.W, Pipeline.arrRef spec2 w = r
  · obtain ⟨w, rfl⟩ := hw
    exact (W9_arr m ρ c w).trans (((dat2 (V8 m ρ) c).arrAt_in w (h w rfl) _).trans (A_eq2 (V8 m ρ) c w))
  · exact W9_of_ne m ρ c r fun w e => hw ⟨w, e⟩
/-- An argument among the call's arrays is one of its inputs. -/
theorem argsIn2 : ∀ a ∈ argRefs, ∀ w : Fin cfg2.W, Pipeline.arrRef spec2 w = a → (cfg2.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn2 a ha)).trans (W8_args m ρ c a ha)
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- The buffers after the next call: its arrays at what it leaves, every other buffer as it found it. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- A buffer that the stretch or the call does not write keeps its contents. -/
theorem W10_of (c : Dev nD) (r : Ref sig .tc) (h : ∀ w : Fin cfg3.W, Pipeline.arrRef spec3 w = r → (cfg3.win w).isOut = false) :
    W10 m ρ c (Proc.devRef .tc r) = W9 m ρ c (Proc.devRef .tc r) := by
  by_cases hw : ∃ w : Fin cfg3.W, Pipeline.arrRef spec3 w = r
  · obtain ⟨w, rfl⟩ := hw
    exact (W10_arr m ρ c w).trans (((dat3 (V9 m ρ) c).arrAt_in w (h w rfl) _).trans (A_eq3 (V9 m ρ) c w))
  · exact W10_of_ne m ρ c r fun w e => hw ⟨w, e⟩
/-- An argument among the call's arrays is one of its inputs. -/
theorem argsIn3 : ∀ a ∈ argRefs, ∀ w : Fin cfg3.W, Pipeline.arrRef spec3 w = a → (cfg3.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn3 a ha)).trans (W9_args m ρ c a ha)
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- The buffers after the next host stretch. -/
abbrev W11 : Dev nD → Valuation τ sig (Elt F) := fun c => StableHlo.after hostOps4 (W10 m ρ c)
/-- A buffer that the stretch or the call does not write keeps its contents. -/
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
theorem W11_args (c : Dev nD) : ∀ a ∈ argRefs, W11 m ρ c (Proc.devRef .tc a) = m ((c : Thread nD τ).loc a) :=
  fun a ha => (W11_of m ρ c a (hostOps4_args a ha)).trans (W10_args m ρ c a ha)

abbrev adm : (p : Fin 4) → (pcfgs (F := F) p).Adm := fun p => (cfgs p).toPCfg_adm
/-- The four calls' proof data, each at what its call finds. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
  | ⟨2, _⟩ => fun c => dat2 (V8 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every buffer at the last contents. -/
abbrev Tₙ (c : Dev nD) : sProp 𝕄 := iprop(StableHlo.held (c : Thread nD τ) (Pipeline.ucRefs τ sig) (W11 m ρ c) ∗ ∃ r, prngReg c r)

end Cert.KernelIdeal.Run

end
-- ==== Proof.Segs.lean ====
module

public import proofs.«01_k».proof.Proof.Bounds
public import Idealize.ShloMosaic.Lib.Pipeline.ValueKit.Acc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The four calls as segments of the program -/

variable (m : (ℓ : Loc nD τ sig) → Buf (Elt F) ℓ) (ρ : Dev nD → PrngReg)

set_option backward.isDefEq.respectTransparency.types false in
/-- Call 0 as a segment, from the contents it finds to the contents it leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment, from the contents it finds to the contents it leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) (A_eq1 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment, from the contents it finds to the contents it leaves. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) (A_eq2 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment, from the contents it finds to the contents it leaves. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) (A_eq3 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KRun.lean ====
module

public import proofs.«01_k».proof.Proof.Segs
public import Idealize.ShloMosaic.Lib.Pipeline.ValueKit.Acc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run -/

variable (m : (ℓ : Loc nD τ sig) → Buf (Elt F) ℓ) (ρ : Dev nD → PrngReg)

/-- The segments of the program, in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (reg1 m ρ),
    .host (hseg hostOps2 hostOps2_sub hostOps2_fresh (W7 m ρ)),
    .region (reg2 m ρ),
    .region (reg3 m ρ),
    .host (hseg hostOps4 hostOps4_sub hostOps4_fresh (W10 m ρ)) ]
/-- The program is the run of its segments. -/
theorem main_run (c : Dev nD) : main (F := F) c = Pipeline.Seg.run (segs m ρ) := (main_chain c).trans (by chain_rfl)

/-- Every semaphore is scoped. -/
theorem no_unscoped : ∀ sm : SemLoc sig, sm.isScoped .tc = true := by decide

set_option backward.isDefEq.respectTransparency.types false in
/-- The whole run: it ends, every buffer holding the last contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W11 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨fun c => h c, funext fun g => hz g (.inr (no_unscoped g.2))⟩)

/-- A run that ends with every buffer at the last contents leaves the arguments as they were. -/
theorem args_of_last (c : Dev nD) {s : (ℓ : Loc nD τ sig) → Buf (Elt F) ℓ} (h : ∀ b ∈ Pipeline.ucRefs τ sig, s (((c : Thread nD τ)).1, b) = W11 m ρ c b) :
    ∀ a ∈ argRefs, ¬ (Proc.devRef .tc a : DevRef τ sig).isScoped → s ((c.tc : Thread nD τ).loc a) = m ((c.tc : Thread nD τ).loc a) :=
  fun a ha hs => (h _ (mem_uc a hs)).trans (W11_args m ρ c a ha)

/-- The frame: the run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20)) ∧ r.2.sem = fun _ => 0) :=
  (θ_run defs _ _).mono (fun r h => ⟨fun c => by
    have ha := args_of_last m ρ c (h.1 c)
    refine ⟨?_, ?_, ?_, ?_, ?_, ?_, ?_, ?_, ?_, ?_, ?_, ?_, ?_, ?_, ?_, ?_, ?_, ?_, ?_, ?_, ?_⟩ <;> exact ha _ (by decide) (by decide), h.2⟩) (run_all m ρ)

end Cert.KernelIdeal.Run

end
-- ==== Proof.Frames.lean ====
/- The frames of the three programs: each runs to its end, its arguments unchanged and every counter back at zero. The
   printed kernel and its copy over the reals are the same text, so one run serves both. -/
module

public import proofs.«01_k».proof.Defs
public import proofs.«01_k».proof.Proof.KRun
public import proofs.«01_k».proof.Proof.Gen.Kernel
public import proofs.«01_k».proof.Proof.Gen.ReferenceIdeal
public import proofs.«01_k».proof.Proof.Gen.ReferenceIdeal.Run
public import Idealize.ShloMosaic.Lib.Tactic
public import Idealize.ShloMosaic.Lib.Claim
public import Idealize.ShloMosaic.Adequacy
public import Idealize.ShloMosaic.PureOps.BitExact

@[expose] public section

set_option maxRecDepth 65536

noncomputable section

namespace Cert.Proof

open Idealize.ShloMosaic Idealize.ShloMosaic.Tactic Idealize.SL.Sem

section Same
open Cert.KernelIdeal Cert.KernelIdeal.Gen

/-- The frame of the kernel's text at the machine's own float values, as it is proved of the copy over the reals. -/
def FrameAtBits : Prop :=
  ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20)) ∧ r.2.sem = fun _ => 0)

theorem frameAtBits : FrameAtBits := fun m ρ => Cert.KernelIdeal.Run.frame m ρ

end Same

/-- The printed kernel and its copy over the reals are one text: their frames are one statement. -/
theorem frame_same : FrameAtBits = ∀ m g, θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0) ∧ r.2.mem ((c.tc : Thread Cert.Kernel.nD Cert.Kernel.τ).loc Cert.Kernel.main_arg1) = m ((c.tc : Thread Cert.Kernel.nD Cert.Kernel.τ).loc Cert.Kernel.main_arg1) ∧ r.2.mem ((c.tc : Thread Cert.Kernel.nD Cert.Kernel.τ).loc Cert.Kernel.main_arg2) = m ((c.tc : Thread Cert.Kernel.nD Cert.Kernel.τ).loc Cert.Kernel.main_arg2) ∧ r.2.mem ((c.tc : Thread Cert.Kernel.nD Cert.Kernel.τ).loc Cert.Kernel.main_arg3) = m ((c.tc : Thread Cert.Kernel.nD Cert.Kernel.τ).loc Cert.Kernel.main_arg3) ∧ r.2.mem ((c.tc : Thread Cert.Kernel.nD Cert.Kernel.τ).loc Cert.Kernel.main_arg4) = m ((c.tc : Thread Cert.Kernel.nD Cert.Kernel.τ).loc Cert.Kernel.main_arg4) ∧ r.2.mem ((c.tc : Thread Cert.Kernel.nD Cert.Kernel.τ).loc Cert.Kernel.main_arg5) = m ((c.tc : Thread Cert.Kernel.nD Cert.Kernel.τ).loc Cert.Kernel.main_arg5) ∧ r.2.mem ((c.tc : Thread Cert.Kernel.nD Cert.Kernel.τ).loc Cert.Kernel.main_arg6) = m ((c.tc : Thread Cert.Kernel.nD Cert.Kernel.τ).loc Cert.Kernel.main_arg6) ∧ r.2.mem ((c.tc : Thread Cert.Kernel.nD Cert.Kernel.τ).loc Cert.Kernel.main_arg7) = m ((c.tc : Thread Cert.Kernel.nD Cert.Kernel.τ).loc Cert.Kernel.main_arg7) ∧ r.2.mem ((c.tc : Thread Cert.Kernel.nD Cert.Kernel.τ).loc Cert.Kernel.main_arg8) = m ((c.tc : Thread Cert.Kernel.nD Cert.Kernel.τ).loc Cert.Kernel.main_arg8) ∧ r.2.mem ((c.tc : Thread Cert.Kernel.nD Cert.Kernel.τ).loc Cert.Kernel.main_arg9) = m ((c.tc : Thread Cert.Kernel.nD Cert.Kernel.τ).loc Cert.Kernel.main_arg9) ∧ r.2.mem ((c.tc : Thread Cert.Kernel.nD Cert.Kernel.τ).loc Cert.Kernel.main_arg10) = m ((c.tc : Thread Cert.Kernel.nD Cert.Kernel.τ).loc Cert.Kernel.main_arg10) ∧ r.2.mem ((c.tc : Thread Cert.Kernel.nD Cert.Kernel.τ).loc Cert.Kernel.main_arg11) = m ((c.tc : Thread Cert.Kernel.nD Cert.Kernel.τ).loc Cert.Kernel.main_arg11) ∧ r.2.mem ((c.tc : Thread Cert.Kernel.nD Cert.Kernel.τ).loc Cert.Kernel.main_arg12) = m ((c.tc : Thread Cert.Kernel.nD Cert.Kernel.τ).loc Cert.Kernel.main_arg12) ∧ r.2.mem ((c.tc : Thread Cert.Kernel.nD Cert.Kernel.τ).loc Cert.Kernel.main_arg13) = m ((c.tc : Thread Cert.Kernel.nD Cert.Kernel.τ).loc Cert.Kernel.main_arg13) ∧ r.2.mem ((c.tc : Thread Cert.Kernel.nD Cert.Kernel.τ).loc Cert.Kernel.main_arg14) = m ((c.tc : Thread Cert.Kernel.nD Cert.Kernel.τ).loc Cert.Kernel.main_arg14) ∧ r.2.mem ((c.tc : Thread Cert.Kernel.nD Cert.Kernel.τ).loc Cert.Kernel.main_arg15) = m ((c.tc : Thread Cert.Kernel.nD Cert.Kernel.τ).loc Cert.Kernel.main_arg15) ∧ r.2.mem ((c.tc : Thread Cert.Kernel.nD Cert.Kernel.τ).loc Cert.Kernel.main_arg16) = m ((c.tc : Thread Cert.Kernel.nD Cert.Kernel.τ).loc Cert.Kernel.main_arg16) ∧ r.2.mem ((c.tc : Thread Cert.Kernel.nD Cert.Kernel.τ).loc Cert.Kernel.main_arg17) = m ((c.tc : Thread Cert.Kernel.nD Cert.Kernel.τ).loc Cert.Kernel.main_arg17) ∧ r.2.mem ((c.tc : Thread Cert.Kernel.nD Cert.Kernel.τ).loc Cert.Kernel.main_arg18) = m ((c.tc : Thread Cert.Kernel.nD Cert.Kernel.τ).loc Cert.Kernel.main_arg18) ∧ r.2.mem ((c.tc : Thread Cert.Kernel.nD Cert.Kernel.τ).loc Cert.Kernel.main_arg19) = m ((c.tc : Thread Cert.Kernel.nD Cert.Kernel.τ).loc Cert.Kernel.main_arg19) ∧ r.2.mem ((c.tc : Thread Cert.Kernel.nD Cert.Kernel.τ).loc Cert.Kernel.main_arg20) = m ((c.tc : Thread Cert.Kernel.nD Cert.Kernel.τ).loc Cert.Kernel.main_arg20)) ∧ r.2.sem = fun _ => 0) := by
  sl_kernel_rfl

/-- The frame of the printed kernel. -/
theorem kernel_frame : quiescent_Kernel := fun m g _ => (frame_same ▸ frameAtBits) m g

/-- The frame of its copy over the reals. -/
theorem kernelIdeal_frame : quiescent_KernelIdeal := fun m g _ => Cert.KernelIdeal.Run.frame m g

/-- The frame of the reference. -/
theorem referenceIdeal_frame : quiescent_ReferenceIdeal := by
  intro m g _
  exact (θ_run _ _ _).mono (fun r h => ⟨fun c => (h c).2.2, sem_eq_zero_of_no_sems rfl r.2⟩) (Cert.ReferenceIdeal.Value.run m g)

end Cert.Proof

end
-- ==== Proof.Pre.lean ====
/- The precondition read back: what its being all ones says of the arguments. -/
module

public import proofs.«01_k».proof.Pre_inputs_ok
public import Idealize.ShloMosaic.Lib.ReduceAll
public import Idealize.ShloMosaic.Lib.Pointwise
public import Idealize.ShloMosaic.PureOps.Ideal.Laws

@[expose] public section

set_option maxRecDepth 16384

noncomputable section

namespace Cert.Pre_inputs_ok

open Idealize.ShloMosaic

/-- The shape relations the precondition's operations state. -/
instance facts : Facts where
  bcast_S_S50000x128 := by decide
  reducesTo_S50000x128_S_d0_1 := by decide
  h_S_ := by decide
  bcast_S_S320000x128 := by decide
  reducesTo_S320000x128_S_d0_1 := by decide
  bcast_S_S128x64 := by decide
  reducesTo_S128x64_S_d0_1 := by decide
  bcast_S_S320x64 := by decide
  reducesTo_S320x64_S_d0_1 := by decide
  bcast_S_S320000 := by decide
  reducesTo_S320000_S_d0 := by decide
  slices_S320000_S319999_0 := by decide
  slices_S320000_S319999_1 := by decide
  reducesTo_S319999_S_d0 := by decide

/-- Every entry is a real number. -/
def Fin' {s : Shape} (x : s.Idx → EReal) : Prop := ∀ i, ∃ r : ℝ, x i = (r : EReal)
/-- Every entry is at least zero and below `n`. -/
def Below (n : ℕ) {s : Shape} (x : s.Idx → BitVec 32) : Prop := ∀ i, 0 ≤ (x i).toInt ∧ (x i).toInt < n

instance : Subsingleton S_.Idx := ⟨fun a b => funext fun i => i.elim0⟩

theorem real_of_lt {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have h' : max x (-x) < ⊤ := by
    by_contra hn
    simp [Ideal.cmp, hn] at h
  induction x using EReal.rec with
  | bot => simp at h'
  | top => simp at h'
  | coe r => exact ⟨r, rfl⟩

theorem fin_of {s : Shape} {axes : List (Fin s.rank)} (x : FVec Ideal s .f32) (hb : S_.BroadcastsInDim s (![] : Fin 0 → Fin s.rank)) (hr : s.ReducesTo axes S_)
    (hu : 0 < S_.numel) (j : S_.Idx)
    (e : Host.reduce IntOp.andi (cmpf .olt (Host.absf x) (broadcastInDim s ![] hb (constant S_ .f32 0x7F800000#32))) (constantI S_ 1 1#1) hr hu j = 1#1) :
    Fin' x := fun i => real_of_lt (Host.reduce_andi_all _ _ hr hu j e i)

theorem below_of {s : Shape} {axes : List (Fin s.rank)} (n : ℕ) (hn : n < 2 ^ 31) (x : IVec s 32) (hb : S_.BroadcastsInDim s (![] : Fin 0 → Fin s.rank)) (hr : s.ReducesTo axes S_)
    (hu : 0 < S_.numel) (j : S_.Idx)
    (e : Host.reduce IntOp.andi (andi (cmpi .sge x (broadcastInDim s ![] hb (constantI S_ 32 0#32))) (cmpi .slt x (broadcastInDim s ![] hb (constantI S_ 32 (BitVec.ofNat 32 n)))))
      (constantI S_ 1 1#1) hr hu j = 1#1) : Below n x := fun i => by
  obtain ⟨h1, h2⟩ := IntOp.andi_eq_one.1 (Host.reduce_andi_all _ _ hr hu j e i)
  refine ⟨IntOp.cmpi_sge.1 h1, ?_⟩
  have := IntOp.cmpi_slt.1 h2
  refine lt_of_lt_of_eq this ?_
  show (BitVec.ofNat 32 n).toInt = n
  rw [BitVec.toInt_eq_toNat_of_lt] <;> rw [BitVec.toNat_ofNat, Nat.mod_eq_of_lt] <;> omega

/-- What the precondition says. -/
structure Ok (a1 : S50000x128.Idx → EReal) (a2 : S320000x128.Idx → EReal) (a6 a7 a8 a9 : S320000.Idx → BitVec 32)
    (a11 : S128x64.Idx → EReal) (a13 a15 : S320x64.Idx → EReal) : Prop where
  f1 : Fin' a1
  f2 : Fin' a2
  f11 : Fin' a11
  f13 : Fin' a13
  f15 : Fin' a15
  r6 : Below 64 a6
  r7 : Below 50000 a7
  r8 : Below 50000 a8
  r9 : Below 40000 a9
  sorted : ∀ (j : ℕ) (h : j + 1 < 320000), (a9 (ix1 ⟨j, Nat.lt_of_succ_lt h⟩)).toInt ≤ (a9 (ix1 ⟨j + 1, h⟩)).toInt

theorem ok_of (a0 : FVec Ideal S320000 .f32) (a1 : FVec Ideal S50000x128 .f32) (a2 : FVec Ideal S320000x128 .f32) (a3 a4 a5 : FVec Ideal S64x128 .f32)
    (a6 a7 a8 a9 a10 : IVec S320000 32) (a11 : FVec Ideal S128x64 .f32) (a12 : FVec Ideal S64 .f32) (a13 : FVec Ideal S320x64 .f32) (a14 : FVec Ideal S64 .f32)
    (a15 : FVec Ideal S320x64 .f32) (a16 : FVec Ideal S64 .f32) (a17 : FVec Ideal S64x64 .f32) (a18 : FVec Ideal S64 .f32) (a19 : FVec Ideal S128x128 .f32) (a20 : FVec Ideal S128 .f32)
    (h : fn a0 a1 a2 a3 a4 a5 a6 a7 a8 a9 a10 a11 a12 a13 a14 a15 a16 a17 a18 a19 a20 = fun _ => 1#1) :
    Ok a1 a2 a6 a7 a8 a9 a11 a13 a15 := by
  have h := congrFun h ix0
  unfold fn fn_part1 fn_part2 fn_part3 at h
  dsimp only at h
  simp only [andi_apply, IntOp.andi_eq_one] at h
  obtain ⟨⟨⟨⟨⟨⟨⟨⟨⟨h1, h2⟩, h11⟩, h13⟩, h15⟩, h6⟩, h7⟩, h8⟩, h9⟩, hs⟩ := h
  exact ⟨fin_of _ _ _ _ _ h1, fin_of _ _ _ _ _ h2, fin_of _ _ _ _ _ h11,
    fin_of _ _ _ _ _ h13, fin_of _ _ _ _ _ h15, below_of 64 (by norm_num) _ _ _ _ _ h6, below_of 50000 (by norm_num) _ _ _ _ _ h7, below_of 50000 (by norm_num) _ _ _ _ _ h8,
    below_of 40000 (by norm_num) _ _ _ _ _ h9, fun j hj => by
      have := IntOp.cmpi_sle.1 (Host.reduce_andi_all _ _ _ _ _ hs (ix1 ⟨j, by omega⟩))
      refine (le_of_eq ?_).trans (this.trans (le_of_eq ?_))
      · refine congrArg (fun i => (a9 i).toInt) ?_
        funext a; fin_cases a; refine Fin.ext (?_ : j = 0 + j); omega
      · refine congrArg (fun i => (a9 i).toInt) ?_
        funext a; fin_cases a; refine Fin.ext (?_ : 1 + j = j + 1); omega⟩

end Cert.Pre_inputs_ok

end
-- ==== Proof.TablesArr.lean ====
/- What the tables call leaves in its three result arrays: the products of the memory's rows with the folded weights, and
   the messages. -/
module

public import proofs.«01_k».proof.Proof.TablesCall
public import Idealize.ShloMosaic.Lib.Pipeline.ValueKit
public import Idealize.ShloMosaic.Lib.Pointwise

@[expose] public section

set_option maxRecDepth 16384

noncomputable section

namespace Cert.Lgt

open Cert.KernelIdeal Cert.KernelIdeal.Gen Cert.KernelIdeal.Run
open Idealize.ShloMosaic Idealize.ShloMosaic.TcCoe Idealize.ShloMosaic.Tactic
open Idealize.SL Idealize.SL.RA

/-- Row `r` of `A` times column `d` of `B`. -/
def mm {a b c : ℕ} (A : (⟨_, ![a, b]⟩ : Shape).Idx → EReal) (B : (⟨_, ![b, c]⟩ : Shape).Idx → EReal) (r : Fin a) (d : Fin c) : EReal :=
  ∑ k : Fin b, A (ix2 r k) * B (ix2 k d)

theorem tblL_apply (x0 : Vec Ideal S1000x128 .f32) (x1 : Vec Ideal S128x64 .f32) (y : S1000x64.Idx) :
    tblL x0 x1 y = mm x0 x1 (y 0) (y 1) := by
  unfold tblL k0_pay1 mm
  pointwise
theorem tblR_apply (x0 : Vec Ideal S1000x128 .f32) (x1 : Vec Ideal S128x64 .f32) (y : S1000x64.Idx) :
    tblR x0 x1 y = mm x0 x1 (y 0) (y 1) := by
  unfold tblR k0_pay2 mm
  pointwise
theorem tblM_apply (x0 : Vec Ideal S1000x128 .f32) (x1 : Vec Ideal S128x128 .f32) (x2 : Vec Ideal S1x128 .f32) (y : S1000x128.Idx) :
    tblM x0 x1 x2 y = mm x0 x1 (y 0) (y 1) + x2 (ix2 0 (y 1)) := by
  unfold tblM k0_pay3 mm
  pointwise

variable (V : (c : Dev nD) → (b : Ref sig .tc) → Buf (Elt Ideal) ((c : Thread nD τ).loc b))

theorem i0_0 : ∀ t : Fin cfg0.N, win0_0.index t = ![t.val, 0] := (by decide +kernel : ∀ t : Fin grid0.N, _)
theorem i0_1 : ∀ t : Fin cfg0.N, win0_1.index t = ![0, 0] := (by decide +kernel : ∀ t : Fin grid0.N, _)
theorem i0_2 : ∀ t : Fin cfg0.N, win0_2.index t = ![0, 0] := (by decide +kernel : ∀ t : Fin grid0.N, _)
theorem i0_3 : ∀ t : Fin cfg0.N, win0_3.index t = ![0, 0] := (by decide +kernel : ∀ t : Fin grid0.N, _)
theorem i0_4 : ∀ t : Fin cfg0.N, win0_4.index t = ![0, 0] := (by decide +kernel : ∀ t : Fin grid0.N, _)
theorem i0_5 : ∀ t : Fin cfg0.N, win0_5.index t = ![t.val, 0] := (by decide +kernel : ∀ t : Fin grid0.N, _)
theorem i0_6 : ∀ t : Fin cfg0.N, win0_6.index t = ![t.val, 0] := (by decide +kernel : ∀ t : Fin grid0.N, _)
theorem i0_7 : ∀ t : Fin cfg0.N, win0_7.index t = ![t.val, 0] := (by decide +kernel : ∀ t : Fin grid0.N, _)

theorem tab_L (c : Dev nD) : (dat0 V c).arrAt 5 cfg0.N
    = fun i : S50000x64.Idx => mm (V c main_arg1) (V c main_v10) (i 0) (i 1) := by
  refine (dat0 V c).arrAt_eq_of_covers 5 _ (by decide +kernel) fun t hf y => ?_
  blk_simp
  rw [after0_5]
  refine (tblL_apply _ _ y).trans ?_
  unfold mm
  refine Finset.sum_congr rfl fun k _ => ?_
  congr 1 <;> blk_ext [iblk0, i0_0, i0_1, i0_5]
theorem tab_R (c : Dev nD) : (dat0 V c).arrAt 6 cfg0.N
    = fun i : S50000x64.Idx => mm (V c main_arg1) (V c main_v11) (i 0) (i 1) := by
  refine (dat0 V c).arrAt_eq_of_covers 6 _ (by decide +kernel) fun t hf y => ?_
  blk_simp
  rw [after0_6]
  refine (tblR_apply _ _ y).trans ?_
  unfold mm
  refine Finset.sum_congr rfl fun k _ => ?_
  congr 1 <;> blk_ext [iblk0, i0_0, i0_2, i0_6]
set_option maxHeartbeats 1000000 in
theorem tab_M (c : Dev nD) : (dat0 V c).arrAt 7 cfg0.N
    = fun i : S50000x128.Idx => mm (V c main_arg1) (V c main_arg19) (i 0) (i 1) + V c main_v44 (ix2 0 (i 1)) := by
  refine (dat0 V c).arrAt_eq_of_covers 7 _ (by decide +kernel) fun t hf y => ?_
  blk_simp
  rw [after0_7]
  refine (tblM_apply _ _ _ y).trans ?_
  unfold mm
  congr 1
  · refine Finset.sum_congr rfl fun k _ => ?_
    congr 1 <;> blk_ext [iblk0, i0_0, i0_3, i0_7]
  · blk_ext [iblk0, i0_4, i0_7]

end Cert.Lgt

end
-- ==== Proof.Scan.lean ====
/- The segmented scans over one block of 4000 lanes, as recursions over the number of doublings, and what they compute:
   the first entry of each lane's segment, the sum of the entries of the segment up to the lane, and, backwards, the last
   entry of the segment. Nothing here mentions the kernel but the shape of its rows. -/
module

public import Idealize.ShloMosaic.Lib.Tactic
public import Idealize.ShloMosaic.Lib.Pointwise.Tactic
public import Idealize.ShloMosaic.Lib.Pointwise.SelectCore
public import Idealize.ShloMosaic.Lib.ValueIdx
public import Idealize.ShloMosaic.PureOps.Ideal

@[expose] public section

noncomputable section

namespace Cert.Scan

open Idealize.ShloMosaic

/-- A row of lanes. -/
abbrev Row : Shape := ⟨2, ![1, 4000]⟩

/-- The entry of a row at a lane given as a natural number. -/
def row {α : Type} (x : Row.Idx → α) (j : ℕ) : α := x (ix2 (0 : Fin 1) (Fin.ofNat 4000 j))

theorem row_apply {α : Type} (x : Row.Idx → α) (j : Fin 4000) : x (ix2 (0 : Fin 1) j) = row x j.val := by
  unfold row; congr 2; exact Fin.ext (Nat.mod_eq_of_lt j.isLt).symm

theorem sliceR (k : Fin 12) : Row.Slices ![0, 0] ⟨2, ![1, 4000 - 2 ^ k.val]⟩ := by revert k; decide
theorem concR (k : Fin 12) : Shape.Concatenates [⟨2, ![1, 2 ^ k.val]⟩, ⟨2, ![1, 4000 - 2 ^ k.val]⟩] Row 1 := by revert k; decide
theorem sliceL (k : Fin 12) : Row.Slices ![0, 2 ^ k.val] ⟨2, ![1, 4000 - 2 ^ k.val]⟩ := by revert k; decide
theorem concL (k : Fin 12) : Shape.Concatenates [⟨2, ![1, 4000 - 2 ^ k.val]⟩, ⟨2, ![1, 2 ^ k.val]⟩] Row 1 := by revert k; decide

/-- The row moved up by `2 ^ k` lanes, the lanes left free filled with `w`. -/
def shR {α : Type} (k : Fin 12) (w : α) (x : Row.Idx → α) : Row.Idx → α :=
  concatenate Row 1 [⟨⟨2, ![1, 2 ^ k.val]⟩, broadcast ⟨2, ![1, 2 ^ k.val]⟩ w⟩,
    ⟨⟨2, ![1, 4000 - 2 ^ k.val]⟩, extractStridedSlice ⟨2, ![1, 4000 - 2 ^ k.val]⟩ ![0, 0] x (sliceR k)⟩] (concR k)
/-- The row moved down by `2 ^ k` lanes, the lanes left free filled with `w`. -/
def shL {α : Type} (k : Fin 12) (w : α) (x : Row.Idx → α) : Row.Idx → α :=
  concatenate Row 1 [⟨⟨2, ![1, 4000 - 2 ^ k.val]⟩, extractStridedSlice ⟨2, ![1, 4000 - 2 ^ k.val]⟩ ![0, 2 ^ k.val] x (sliceL k)⟩,
    ⟨⟨2, ![1, 2 ^ k.val]⟩, broadcast ⟨2, ![1, 2 ^ k.val]⟩ w⟩] (concL k)

theorem pow_lt (k : Fin 12) : 2 ^ k.val < 4000 := by revert k; decide

theorem row_shR {α : Type} (k : Fin 12) (w : α) (x : Row.Idx → α) (j : ℕ) (hj : j < 4000) :
    row (shR k w x) j = if j < 2 ^ k.val then w else row x (j - 2 ^ k.val) := by
  have hm : j % 4000 = j := Nat.mod_eq_of_lt hj
  have hp0 : 0 < 2 ^ k.val := by positivity
  unfold shR
  conv_lhs => unfold row
  rw [concatenate_pair_apply]
  by_cases h : j < 2 ^ k.val
  · rw [if_pos h]; refine (dif_pos (show (j % 4000) < 2 ^ k.val by omega)).trans ?_; rfl
  · rw [if_neg h]; refine (dif_neg (show ¬ (j % 4000) < 2 ^ k.val by omega)).trans ?_
    unfold row extractStridedSlice
    congr 1; funext a
    match a with
    | 0 => rfl
    | 1 =>
      refine Fin.ext ?_
      show 0 + (j % 4000 - 2 ^ k.val) = (j - 2 ^ k.val) % 4000
      rw [hm, Nat.mod_eq_of_lt (by omega)]; omega

theorem row_shL {α : Type} (k : Fin 12) (w : α) (x : Row.Idx → α) (j : ℕ) (hj : j < 4000) :
    row (shL k w x) j = if j + 2 ^ k.val < 4000 then row x (j + 2 ^ k.val) else w := by
  have hm : j % 4000 = j := Nat.mod_eq_of_lt hj
  have hp := pow_lt k
  unfold shL
  conv_lhs => unfold row
  rw [concatenate_pair_apply]
  by_cases h : j + 2 ^ k.val < 4000
  · rw [if_pos h]; refine (dif_pos (show (j % 4000) < 4000 - 2 ^ k.val by omega)).trans ?_
    unfold row extractStridedSlice
    congr 1; funext a
    match a with
    | 0 => rfl
    | 1 =>
      refine Fin.ext ?_
      show 2 ^ k.val + (j % 4000) = (j + 2 ^ k.val) % 4000
      rw [hm, Nat.mod_eq_of_lt h]; omega
  · rw [if_neg h]; refine (dif_neg (show ¬ (j % 4000) < 4000 - 2 ^ k.val by omega)).trans ?_; rfl

/-- Whether a flag is set. -/
def on (b : BitVec 32) : Prop := 0 < b.toInt
instance (b : BitVec 32) : Decidable (on b) := inferInstanceAs (Decidable (0 < b.toInt))

theorem cmp_on (b : BitVec 32) : IntOp.cmpi .sgt b 0#32 = 1 ↔ on b := by
  unfold IntOp.cmpi on
  rw [show (1 : BitVec 1) = BitVec.ofBool true from rfl]
  constructor
  · intro h
    have : BitVec.slt 0#32 b = true := by
      cases hb : BitVec.slt 0#32 b <;> simp_all
    simpa [BitVec.slt] using this
  · intro h
    have : BitVec.slt 0#32 b = true := by simpa [BitVec.slt] using h
    simp [this]

theorem max_on (a b : BitVec 32) : on (IntOp.maxsi a b) ↔ on a ∨ on b := by
  unfold IntOp.maxsi on
  by_cases h : b.slt a = true
  · rw [if_pos h]; simp only [BitVec.slt, decide_eq_true_eq] at h; omega
  · rw [if_neg h]; simp only [BitVec.slt, decide_eq_true_eq] at h; omega

theorem one_on : on 1#32 := by decide

/-- The flags after `n` doublings. -/
def flagR (f : Row.Idx → BitVec 32) : ℕ → Row.Idx → BitVec 32
  | 0 => f
  | n + 1 => maxsi (flagR f n) (shR (Fin.ofNat 12 n) 1#32 (flagR f n))
/-- The filling scan after `n` doublings. -/
def fillR (f : Row.Idx → BitVec 32) (x : Row.Idx → EReal) : ℕ → Row.Idx → EReal
  | 0 => x
  | n + 1 => select (cmpi .sgt (flagR f n) (broadcast Row 0#32)) (fillR f x n)
      (shR (Fin.ofNat 12 n) (Scalar.ofBits (F := Ideal) .f32 0x00000000#32) (fillR f x n))
/-- The summing scan after `n` doublings. -/
def sumR (f : Row.Idx → BitVec 32) (x : Row.Idx → EReal) : ℕ → Row.Idx → EReal
  | 0 => x
  | n + 1 => addf (F := Ideal) (φ := .f32) (sumR f x n) (select (cmpi .sgt (flagR f n) (broadcast Row 0#32))
      (broadcast Row (Scalar.ofBits (F := Ideal) .f32 0x00000000#32))
      (shR (Fin.ofNat 12 n) (Scalar.ofBits (F := Ideal) .f32 0x00000000#32) (sumR f x n)))
/-- The flags of the backward scan after `n` doublings. -/
def flagL (f : Row.Idx → BitVec 32) : ℕ → Row.Idx → BitVec 32
  | 0 => f
  | n + 1 => maxsi (flagL f n) (shL (Fin.ofNat 12 n) 1#32 (flagL f n))
/-- The backward filling scan after `n` doublings. -/
def fillL (f : Row.Idx → BitVec 32) (x : Row.Idx → EReal) : ℕ → Row.Idx → EReal
  | 0 => x
  | n + 1 => select (cmpi .sgt (flagL f n) (broadcast Row 0#32)) (fillL f x n)
      (shL (Fin.ofNat 12 n) (Scalar.ofBits (F := Ideal) .f32 0x00000000#32) (fillL f x n))

theorem ofNat_val (n : ℕ) (hn : n < 12) : (Fin.ofNat 12 n).val = n := Nat.mod_eq_of_lt hn

/-- A flag is set after `n` doublings exactly if one was set at one of the `2 ^ n` lanes up to it. -/
theorem row_flagR (f : Row.Idx → BitVec 32) (h0 : on (row f 0)) : ∀ n, n ≤ 12 → ∀ j, j < 4000 →
    (on (row (flagR f n) j) ↔ ∃ i, i ≤ j ∧ j < i + 2 ^ n ∧ on (row f i))
  | 0, _, j, _ => ⟨fun h => ⟨j, le_refl _, by simp, h⟩, fun ⟨i, h1, h2, h3⟩ => by
      obtain rfl : i = j := by simp at h2; omega
      exact h3⟩
  | n + 1, hn, j, hj => by
    have ih := row_flagR f h0 n (by omega)
    have hp : 0 < 2 ^ n := by positivity
    have hs : row (flagR f (n + 1)) j = IntOp.maxsi (row (flagR f n) j) (row (shR (Fin.ofNat 12 n) 1#32 (flagR f n)) j) := rfl
    rw [hs, max_on, row_shR _ _ _ j hj, ofNat_val n (by omega), ih j hj, pow_succ]
    by_cases hl : j < 2 ^ n
    · rw [if_pos hl]
      exact ⟨fun _ => ⟨0, by omega, by omega, h0⟩, fun _ => .inr one_on⟩
    · rw [if_neg hl, row_flagR f h0 n (by omega) (j - 2 ^ n) (by omega)]
      constructor
      · rintro (⟨i, h1, h2, h3⟩ | ⟨i, h1, h2, h3⟩)
        · exact ⟨i, h1, by omega, h3⟩
        · exact ⟨i, by omega, by omega, h3⟩
      · rintro ⟨i, h1, h2, h3⟩
        by_cases hi : j < i + 2 ^ n
        · exact .inl ⟨i, h1, hi, h3⟩
        · exact .inr ⟨i, by omega, by omega, h3⟩

/-- The flags backwards, the last lane's set. -/
theorem row_flagL (f : Row.Idx → BitVec 32) (h0 : on (row f 3999)) : ∀ n, n ≤ 12 → ∀ j, j < 4000 →
    (on (row (flagL f n) j) ↔ ∃ i, j ≤ i ∧ i < 4000 ∧ i < j + 2 ^ n ∧ on (row f i))
  | 0, _, j, hj => ⟨fun h => ⟨j, le_refl _, hj, by simp, h⟩, fun ⟨i, h1, _, h2, h3⟩ => by
      obtain rfl : i = j := by simp at h2; omega
      exact h3⟩
  | n + 1, hn, j, hj => by
    have ih := row_flagL f h0 n (by omega)
    have hp : 0 < 2 ^ n := by positivity
    have hs : row (flagL f (n + 1)) j = IntOp.maxsi (row (flagL f n) j) (row (shL (Fin.ofNat 12 n) 1#32 (flagL f n)) j) := rfl
    rw [hs, max_on, row_shL _ _ _ j hj, ofNat_val n (by omega), ih j hj, pow_succ]
    by_cases hl : j + 2 ^ n < 4000
    · rw [if_pos hl, ih _ hl]
      constructor
      · rintro (⟨i, h1, h4, h2, h3⟩ | ⟨i, h1, h4, h2, h3⟩)
        · exact ⟨i, h1, h4, by omega, h3⟩
        · exact ⟨i, by omega, h4, by omega, h3⟩
      · rintro ⟨i, h1, h4, h2, h3⟩
        by_cases hi : i < j + 2 ^ n
        · exact .inl ⟨i, h1, h4, hi, h3⟩
        · exact .inr ⟨i, by omega, h4, by omega, h3⟩
    · rw [if_neg hl]
      exact ⟨fun _ => ⟨3999, by omega, by omega, by omega, h0⟩, fun _ => .inr one_on⟩

/-- `st` sends each lane to the last set flag at or before it. -/
structure Starts (f : Row.Idx → BitVec 32) (st : ℕ → ℕ) : Prop where
  le : ∀ j, j < 4000 → st j ≤ j
  set : ∀ j, j < 4000 → on (row f (st j))
  off : ∀ j, j < 4000 → ∀ i, st j < i → i ≤ j → ¬ on (row f i)

theorem Starts.zero {f st} (h : Starts f st) : Scan.on (row f 0) := by
  have := h.set 0 (by omega); rwa [Nat.le_zero.mp (h.le 0 (by omega))] at this

/-- A window without a set flag keeps the start. -/
theorem Starts.back {f st} (h : Starts f st) {j d : ℕ} (hj : j < 4000) (hd : d ≤ j)
    (hn : ¬ ∃ i, i ≤ j ∧ j < i + d ∧ Scan.on (row f i)) : st (j - d) = st j ∧ st j ≤ j - d := by
  have h1 : st j ≤ j - d := by
    by_contra hc
    exact hn ⟨st j, h.le j hj, by omega, h.set j hj⟩
  refine ⟨?_, h1⟩
  have hl := h.le (j - d) (by omega)
  rcases Nat.lt_trichotomy (st (j - d)) (st j) with hlt | heq | hgt
  · exact absurd (h.set j hj) (h.off (j - d) (by omega) _ hlt h1)
  · exact heq
  · exact absurd (h.set (j - d) (by omega)) (h.off j hj _ hgt (by omega))

theorem Starts.fwd {f st} (h : Starts f st) {j d : ℕ} (hj : j < 4000)
    (hn : ∃ i, i ≤ j ∧ j < i + d ∧ Scan.on (row f i)) : j + 1 ≤ st j + d := by
  obtain ⟨i, h1, h2, h3⟩ := hn
  have : i ≤ st j := by
    by_contra hc
    exact h.off j hj i (by omega) h1 h3
  omega

/-- The filling scan holds the entry at the segment's start, or at the window's first lane. -/
theorem row_fillR (f : Row.Idx → BitVec 32) (x : Row.Idx → EReal) {st : ℕ → ℕ} (hst : Starts f st) :
    ∀ n, n ≤ 12 → ∀ j, j < 4000 → row (fillR f x n) j = row x (max (st j) (j + 1 - 2 ^ n))
  | 0, _, j, hj => by
    have := hst.le j hj
    show row x j = _
    congr 1; simp; omega
  | n + 1, hn, j, hj => by
    have ih := row_fillR f x hst n (by omega)
    have hs : row (fillR f x (n + 1)) j = if IntOp.cmpi .sgt (row (flagR f n) j) 0#32 = 1 then row (fillR f x n) j
      else row (shR (Fin.ofNat 12 n) (Scalar.ofBits (F := Ideal) .f32 0x00000000#32) (fillR f x n)) j := rfl
    have hf := row_flagR f hst.zero n (by omega) j hj
    have hp : 0 < 2 ^ n := by positivity
    rw [hs, row_shR _ _ _ j hj, ofNat_val n (by omega), pow_succ]
    by_cases hc : on (row (flagR f n) j)
    · rw [if_pos ((cmp_on _).2 hc), ih j hj]
      have := hst.fwd hj (hf.1 hc)
      congr 1; omega
    · rw [if_neg (fun h => hc ((cmp_on _).1 h))]
      have hn' := fun h => hc (hf.2 h)
      have hd : 2 ^ n ≤ j := by
        by_contra hlt
        exact hn' ⟨0, by omega, by omega, hst.zero⟩
      obtain ⟨h1, h2⟩ := hst.back hj hd hn'
      rw [if_neg (by omega), ih (j - 2 ^ n) (by omega), h1]
      congr 1; omega

/-- The summing scan holds the sum of the entries from there up to the lane. -/
theorem row_sumR (f : Row.Idx → BitVec 32) (x : Row.Idx → EReal) {st : ℕ → ℕ} (hst : Starts f st) :
    ∀ n, n ≤ 12 → ∀ j, j < 4000 → row (sumR f x n) j = ∑ i ∈ Finset.Icc (max (st j) (j + 1 - 2 ^ n)) j, row x i
  | 0, _, j, hj => by
    have := hst.le j hj
    show row x j = _
    rw [show max (st j) (j + 1 - 2 ^ 0) = j by simp; omega, Finset.Icc_self, Finset.sum_singleton]
  | n + 1, hn, j, hj => by
    have ih := row_sumR f x hst n (by omega)
    have hs : row (sumR f x (n + 1)) j = row (sumR f x n) j + if IntOp.cmpi .sgt (row (flagR f n) j) 0#32 = 1
      then Ideal.ofBits .f32 0x00000000#32
      else row (shR (Fin.ofNat 12 n) (Scalar.ofBits (F := Ideal) .f32 0x00000000#32) (sumR f x n)) j := rfl
    have hf := row_flagR f hst.zero n (by omega) j hj
    have hp : 0 < 2 ^ n := by positivity
    have hl := hst.le j hj
    rw [hs, row_shR _ _ _ j hj, ofNat_val n (by omega), pow_succ, ih j hj]
    by_cases hc : on (row (flagR f n) j)
    · rw [if_pos ((cmp_on _).2 hc), Ideal.ofBits_zero_f32, add_zero]
      have := hst.fwd hj (hf.1 hc)
      congr 2; omega
    · rw [if_neg (fun h => hc ((cmp_on _).1 h))]
      have hn' := fun h => hc (hf.2 h)
      have hd : 2 ^ n ≤ j := by
        by_contra hlt
        exact hn' ⟨0, by omega, by omega, hst.zero⟩
      obtain ⟨h1, h2⟩ := hst.back hj hd hn'
      rw [if_neg (by omega), ih (j - 2 ^ n) (by omega), h1, add_comm, ← Finset.sum_union]
      · congr 1; ext i
        simp only [Finset.mem_union, Finset.mem_Icc]; omega
      · rw [Finset.disjoint_left]
        intro i; simp only [Finset.mem_Icc]; omega

/-- `en` sends each lane to the first set flag at or after it. -/
structure Ends (f : Row.Idx → BitVec 32) (en : ℕ → ℕ) : Prop where
  ge : ∀ j, j < 4000 → j ≤ en j
  lt : ∀ j, j < 4000 → en j < 4000
  set : ∀ j, j < 4000 → on (row f (en j))
  off : ∀ j, j < 4000 → ∀ i, j ≤ i → i < en j → ¬ on (row f i)

theorem Ends.last {f en} (h : Ends f en) : Scan.on (row f 3999) := by
  have h1 := h.set 3999 (by omega); have h2 := h.lt 3999 (by omega); have h3 := h.ge 3999 (by omega)
  rwa [show en 3999 = 3999 by omega] at h1

/-- The backward filling scan holds the entry at the segment's end, or at the window's last lane. -/
theorem row_fillL (f : Row.Idx → BitVec 32) (x : Row.Idx → EReal) {en : ℕ → ℕ} (h : Ends f en) :
    ∀ n, n ≤ 12 → ∀ j, j < 4000 → row (fillL f x n) j = row x (min (en j) (j + 2 ^ n - 1))
  | 0, _, j, hj => by
    have := h.ge j hj
    show row x j = _
    congr 1; simp; omega
  | n + 1, hn, j, hj => by
    have ih := row_fillL f x h n (by omega)
    have hs : row (fillL f x (n + 1)) j = if IntOp.cmpi .sgt (row (flagL f n) j) 0#32 = 1 then row (fillL f x n) j
      else row (shL (Fin.ofNat 12 n) (Scalar.ofBits (F := Ideal) .f32 0x00000000#32) (fillL f x n)) j := rfl
    have hf := row_flagL f h.last n (by omega) j hj
    have hp : 0 < 2 ^ n := by positivity
    rw [hs, row_shL _ _ _ j hj, ofNat_val n (by omega), pow_succ]
    have hg := h.ge j hj
    by_cases hc : on (row (flagL f n) j)
    · rw [if_pos ((cmp_on _).2 hc), ih j hj]
      obtain ⟨i, h1, h4, h2, h3⟩ := hf.1 hc
      have : en j ≤ i := by
        by_contra hlt
        exact h.off j hj i h1 (by omega) h3
      congr 1; omega
    · rw [if_neg (fun h => hc ((cmp_on _).1 h))]
      have hn' : ¬ _ := fun h => hc (hf.2 h)
      have h5 : j + 2 ^ n ≤ en j := by
        by_contra hlt
        exact hn' ⟨en j, hg, h.lt j hj, by omega, h.set j hj⟩
      have hlt := h.lt j hj
      have hj' : j + 2 ^ n < 4000 := by omega
      have h6 : en (j + 2 ^ n) = en j := by
        have ha := h.ge _ hj'
        rcases Nat.lt_trichotomy (en (j + 2 ^ n)) (en j) with hlt | heq | hgt
        · exact absurd (h.set _ hj') (h.off j hj _ (by omega) hlt)
        · exact heq
        · exact absurd (h.set j hj) (h.off _ hj' _ h5 hgt)
      rw [if_pos hj', ih _ hj', h6]
      congr 1; omega

/-- Twelve doublings reach the segment's start. -/
theorem fillR_start (f : Row.Idx → BitVec 32) (x : Row.Idx → EReal) {st : ℕ → ℕ} (hst : Starts f st) (j : ℕ) (hj : j < 4000) :
    row (fillR f x 12) j = row x (st j) := by
  rw [row_fillR f x hst 12 (le_refl _) j hj]; congr 1; norm_num; omega
theorem sumR_start (f : Row.Idx → BitVec 32) (x : Row.Idx → EReal) {st : ℕ → ℕ} (hst : Starts f st) (j : ℕ) (hj : j < 4000) :
    row (sumR f x 12) j = ∑ i ∈ Finset.Icc (st j) j, row x i := by
  rw [row_sumR f x hst 12 (le_refl _) j hj]; congr 2; norm_num; omega
theorem fillL_end (f : Row.Idx → BitVec 32) (x : Row.Idx → EReal) {en : ℕ → ℕ} (h : Ends f en) (j : ℕ) (hj : j < 4000) :
    row (fillL f x 12) j = row x (en j) := by
  have := h.lt j hj
  rw [row_fillL f x h 12 (le_refl _) j hj]; congr 1; norm_num; omega

end Cert.Scan

end
-- ==== Proof.Lanes.lean ====
/- The carried calls' steps over the reals, lane by lane: the printed chains are the scans of `Scan`, and the scalars that are
   carried are entries of the rows. -/
module

public import proofs.«01_k».proof.Proof.Vals
public import proofs.«01_k».proof.Proof.Scan
public import Idealize.ShloMosaic.Lib.WordSum
public import Idealize.ShloMosaic.Lib.Pointwise.Reduce
public import Idealize.ShloMosaic.Lib.Pointwise.Reshape
public import Idealize.ShloMosaic.PureOps.Ideal

@[expose] public section

noncomputable section

namespace Cert.KernelIdeal.Run

open Cert.KernelIdeal Cert.KernelIdeal.Gen Cert.Scan
open Idealize.ShloMosaic Idealize.ShloMosaic.Tactic

/-- The entry of a stored block at a lane. -/
def row3 {α : Type} (x : S1x1x4000.Idx → α) (j : ℕ) : α := x (ix3 (0 : Fin 1) (0 : Fin 1) (Fin.ofNat 4000 j))

theorem row_cast {α : Type} (x : S1x1x4000.Idx → α) (h : S1x1x4000.ShapeCasts S1x4000) (j : ℕ) : row (shapeCast S1x4000 x h) j = row3 x j := by
  unfold row row3; pointwise

theorem row3_cast {α : Type} (x : S1x4000.Idx → α) (h : S1x4000.ShapeCasts S1x1x4000) (j : ℕ) : row3 (shapeCast S1x1x4000 x h) j = row x j := by
  unfold row row3; pointwise

theorem cast_self {α : Type} (x : S1x1x4000.Idx → α) (h : S1x1x4000.ShapeCasts S1x1x4000) : shapeCast S1x1x4000 x h = x := by
  funext i; pointwise

theorem pay2_row (x : Vec Ideal S1x1x4000 .f32) (j : ℕ) : row (k2_pay2 x) j = row3 x j := by
  unfold k2_pay2; rw [row_cast, cast_self]
theorem pay3_row (x : Vec Ideal S1x1x4000 .i32) (j : ℕ) : row (k2_pay3 x) j = row3 x j := by
  unfold k2_pay3; rw [row_cast, cast_self]

/-- The flags of the forward scan: a lane differs from the one before it. -/
def newR (s : Row.Idx → BitVec 32) : Row.Idx → BitVec 32 := extui 32 (cmpi .ne s (shR 0 4294967295#32 s)) natLt_1_32
/-- The flags of the backward scan: a lane differs from the one after it. -/
def newL (s : Row.Idx → BitVec 32) : Row.Idx → BitVec 32 := extui 32 (cmpi .ne s (shL 0 4294967295#32 s)) natLt_1_32

theorem fwdHead_eq (x0 : Vec Ideal S1x1x4000 .f32) (x1 : Vec Ideal S1x1x4000 .i32) :
    fwdHead x0 x1 = fillR (newR (k2_pay3 (F := Ideal) x1)) (k2_pay2 x0) 12 := by sl_kernel_rfl

theorem fwdF_eq (x0 : Vec Ideal S1x1x4000 .f32) (x1 : Vec Ideal S1x1x4000 .i32) (s : FwdSt Ideal) :
    fwdF x0 x1 s = addf (F := Ideal) (φ := .f32) (sumR (newR (k2_pay3 (F := Ideal) x1)) (fwdE x0 x1 s) 12)
      (select (fwdMask (F := Ideal) x1 s) (broadcast Row s.2.2) (broadcast Row (Scalar.ofBits (F := Ideal) .f32 0x00000000#32))) := by sl_kernel_rfl

theorem bwdTot_eq (x1 : Vec Ideal S1x1x4000 .f32) (x2 : Vec Ideal S1x1x4000 .i32) (s : BwdSt Ideal) :
    bwdTot x1 x2 s = select (cmpi .eq (k3_pay2 (F := Ideal) x2) (broadcast Row s.1)) (broadcast Row s.2)
      (fillL (newL (k3_pay2 (F := Ideal) x2)) (k3_pay1 x1) 12) := by sl_kernel_rfl

/-- A sum over a block all of whose lanes but one are zero is that lane's entry. -/
theorem pick_sum {α : Type} [AddCommMonoid α] (h : S1x1x4000.Reduces [1, 2] S1) (y : S1x1x4000.Idx → α) (x : Row.Idx → α) (l : Fin 4000)
    (hy : ∀ j, j < 4000 → row3 y j = if j = l.val then row x j else 0) (o : S1.Idx) :
    ∑ i ∈ Finset.univ.filter (fun i => h.drop i = o), y i = row x l.val := by
  have hi : ∀ i : S1x1x4000.Idx, y i = row3 y (i 2).val := by
    intro i; unfold row3; congr 1; funext a
    match a with
    | 0 => exact Subsingleton.elim (α := Fin 1) _ _
    | 1 => exact Subsingleton.elim (α := Fin 1) _ _
    | 2 => exact Fin.ext (Nat.mod_eq_of_lt (i 2).isLt).symm
  rw [Finset.sum_eq_single (ix3 (0 : Fin 1) (0 : Fin 1) l)]
  · rw [hi]; exact (hy l.val l.isLt).trans (if_pos rfl)
  · intro i _ hne
    rw [hi, hy _ (i 2).isLt, if_neg]
    intro hl; apply hne; funext a
    match a with
    | 0 => exact Subsingleton.elim (α := Fin 1) _ _
    | 1 => exact Subsingleton.elim (α := Fin 1) _ _
    | 2 => exact Fin.ext hl
  · intro hn
    refine absurd (Finset.mem_filter.2 ⟨Finset.mem_univ _, ?_⟩) hn
    funext a
    match a with
    | 0 => exact Subsingleton.elim (α := Fin 1) _ _

/-- The lane selected by its number. -/
theorem sel_row {α : Type} (l : Fin 4000) (x : Row.Idx → α) (z : α) (j : ℕ) (hj : j < 4000) :
    row3 (shapeCast S1x1x4000 (select (cmpi .eq (iota .tc S1x4000 32 [1] iota_S1x4000_d1_w32) (broadcast S1x4000 (BitVec.ofNat 32 l.val))) x
      (broadcast S1x4000 z)) shapeCasts_S1x4000_S1x1x4000) j = if j = l.val then row x j else z := by
  rw [row3_cast]
  have hm : j % 4000 = j := Nat.mod_eq_of_lt hj
  have hl := l.isLt
  have hs : row (select (cmpi .eq (iota .tc S1x4000 32 [1] iota_S1x4000_d1_w32) (broadcast S1x4000 (BitVec.ofNat 32 l.val))) x
      (broadcast S1x4000 z)) j = if IntOp.cmpi .eq (BitVec.ofNat 32 (0 * 4000 + j % 4000)) (BitVec.ofNat 32 l.val) = 1 then row x j else z := rfl
  rw [hs, hm, zero_mul, zero_add]
  have hc : IntOp.cmpi .eq (BitVec.ofNat 32 j) (BitVec.ofNat 32 l.val) = 1 ↔ j = l.val := by
    unfold IntOp.cmpi
    rw [show (1 : BitVec 1) = BitVec.ofBool true from rfl]
    constructor
    · intro h
      have hb : (BitVec.ofNat 32 j == BitVec.ofNat 32 l.val) = true := by
        cases hb : (BitVec.ofNat 32 j == BitVec.ofNat 32 l.val) <;> simp_all
      have := congrArg BitVec.toNat (eq_of_beq hb)
      simp only [BitVec.toNat_ofNat] at this
      omega
    · rintro h; simp [h]
  by_cases h : j = l.val
  · rw [if_pos (hc.2 h), if_pos h]
  · rw [if_neg (fun h' => h (hc.1 h')), if_neg h]

/-- A lane picked out by comparing lane numbers and summing. -/
def pickF (l : Fin 4000) (x : FVec Ideal S1x4000 .f32) : Ideal .f32 :=
    extractAt ![0, 0, 0] (shapeCast S1x1x1 (multiReduction .add [1, 2] S1 (shapeCast S1x1x4000
      (select (cmpi .eq (iota .tc S1x4000 32 [1] iota_S1x4000_d1_w32) (broadcast S1x4000 (BitVec.ofNat 32 l.val))) x
        (broadcast S1x4000 (Scalar.ofBits (F := Ideal) .f32 0x00000000#32))) shapeCasts_S1x4000_S1x1x4000) 0x00000000#32
        reduces_S1x1x4000_S1 (.inl rfl) rfl) shapeCasts_S1_S1x1x1) inpos_S1x1x1_p0_0_0

/-- The float entry that is carried from a lane. -/
theorem pick_f (l : Fin 4000) (x : FVec Ideal S1x4000 .f32) : pickF l x = row x l.val := by
  refine pick_sum reduces_S1x1x4000_S1 (shapeCast S1x1x4000
      (select (cmpi .eq (iota .tc S1x4000 32 [1] iota_S1x4000_d1_w32) (broadcast S1x4000 (BitVec.ofNat 32 l.val))) x
        (broadcast S1x4000 (Scalar.ofBits (F := Ideal) .f32 0x00000000#32))) shapeCasts_S1x4000_S1x1x4000) x l
    (fun j hj => (sel_row l x _ j hj).trans ?_) _
  rw [show (Scalar.ofBits (F := Ideal) .f32 0x00000000#32) = (0 : EReal) from Ideal.ofBits_zero_f32]

/-- A lane picked out by comparing lane numbers and summing. -/
def pickI (l : Fin 4000) (x : IVec S1x4000 32) : BitVec 32 :=
    extractAt ![0, 0, 0] (shapeCast S1x1x1 (multiReductionI .add [1, 2] S1 (shapeCast S1x1x4000
      (select (cmpi .eq (iota .tc S1x4000 32 [1] iota_S1x4000_d1_w32) (broadcast S1x4000 (BitVec.ofNat 32 l.val))) x
        (broadcast S1x4000 0#32)) shapeCasts_S1x4000_S1x1x4000) 0#32
        reduces_S1x1x4000_S1 rfl) shapeCasts_S1_S1x1x1) inpos_S1x1x1_p0_0_0

/-- The word that is carried from a lane. -/
theorem pick_i (l : Fin 4000) (x : IVec S1x4000 32) : pickI l x = row x l.val := by
  refine (reduceFold_add_eq_sum reduces_S1x1x4000_S1 (0 : BitVec 32) (shapeCast S1x1x4000
      (select (cmpi .eq (iota .tc S1x4000 32 [1] iota_S1x4000_d1_w32) (broadcast S1x4000 (BitVec.ofNat 32 l.val))) x
        (broadcast S1x4000 0#32)) shapeCasts_S1x4000_S1x1x4000) _).trans ?_
  rw [zero_add]
  exact pick_sum _ _ x l (fun j hj => sel_row l x _ j hj) _

/-- What the forward call carries on: the last lane's segment, its first logit and its running sum. -/
theorem fwdNext_eq (x0 : Vec Ideal S1x1x4000 .f32) (x1 : Vec Ideal S1x1x4000 .i32) (s : FwdSt Ideal) :
    fwdNext x0 x1 s = (row3 x1 3999, row (fwdC x0 x1 s) 3999, row (fwdF x0 x1 s) 3999) := by
  have h : fwdNext x0 x1 s = (pickI ⟨3999, by omega⟩ (k2_pay3 (F := Ideal) x1), pickF ⟨3999, by omega⟩ (fwdC x0 x1 s),
    pickF ⟨3999, by omega⟩ (fwdF x0 x1 s)) := by sl_kernel_rfl
  rw [h, pick_i, pick_f, pick_f, pay3_row]

/-- What the backward call carries on: the first lane's segment and that segment's total. -/
theorem bwdNext_eq (x1 : Vec Ideal S1x1x4000 .f32) (x2 : Vec Ideal S1x1x4000 .i32) (s : BwdSt Ideal) :
    bwdNext x1 x2 s = (row3 x2 0, row (bwdTot x1 x2 s) 0) := by
  have h : bwdNext x1 x2 s = (pickI ⟨0, by omega⟩ (k2_pay3 (F := Ideal) x2), pickF ⟨0, by omega⟩ (bwdTot x1 x2 s)) := by sl_kernel_rfl
  rw [h, pick_i, pick_f, pay3_row]

end Cert.KernelIdeal.Run

end
-- ==== Proof.LogitsVal.lean ====
/- The logits call's block value at an entry. -/
module

public import proofs.«01_k».proof.Proof.LogitsCall
public import proofs.«01_k».proof.Proof.Lanes
public import Idealize.ShloMosaic.Lib.Pointwise

@[expose] public section

set_option maxRecDepth 16384

noncomputable section

namespace Cert.Lgt

open Cert.KernelIdeal Cert.KernelIdeal.Gen Cert.KernelIdeal.Run
open Idealize.ShloMosaic Idealize.ShloMosaic.TcCoe Idealize.ShloMosaic.Tactic
open Idealize.SL Idealize.SL.RA

/-- The leaky rectifier. -/
def leaky (v : EReal) : EReal :=
  Scalar.select (Scalar.cmpf (F := Ideal) (φ := .f32) .oge v (Ideal.ofBits .f32 0x00000000#32)) v (Ideal.ofBits .f32 0x3C23D70A#32 * v)

/-- One where the word is the row's number, zero elsewhere. -/
def oneh (w : BitVec 32) (q : Fin 64) : EReal :=
  Scalar.sitofp (F := Ideal) .f32 ((IntOp.cmpi .eq w (BitVec.ofNat 32 q.val)).zeroExtend 32)

/-- The logit of two rows of preactivations. -/
def lg (l r : Fin 64 → EReal) (C : S64x64.Idx → EReal) (cb : Fin 64 → EReal) : EReal :=
  ∑ d : Fin 64, leaky (l d) * ((∑ k : Fin 64, leaky (r k) * C (ix2 k d)) + cb d)

theorem pay2_apply (x3 : Vec Ideal S1x1x4000 .i32) (i : S4000x64.Idx) :
    k1_pay2 (F := Ideal) x3 i = oneh (x3 (ix3 0 0 (i 0))) (i 1) := by
  unfold k1_pay2 oneh
  pointwise
  rfl
theorem pay3_apply (x0 : Vec Ideal S4000x128 .f32) (x3 : Vec Ideal S1x1x4000 .i32) (x6 : Vec Ideal S64x64 .f32) (x1 : Vec Ideal S4000x64 .f32) (x8 : Vec Ideal S1x64 .f32) (x4 : Vec Ideal S128x64 .f32) (i : S4000x64.Idx) :
    k1_pay3 x0 x3 x6 x1 x8 x4 i = ((x1 i + ∑ q : Fin 64, k1_pay2 x3 (ix2 (i 0) q) * x6 (ix2 q (i 1))) + x8 (ix2 0 (i 1))) + ∑ j : Fin 128, x0 (ix2 (i 0) j) * x4 (ix2 j (i 1)) := by
  unfold k1_pay3
  pointwise
theorem pay4_apply (x3 : Vec Ideal S1x1x4000 .i32) (x7 : Vec Ideal S64x64 .f32) (x2 : Vec Ideal S4000x64 .f32) (x9 : Vec Ideal S1x64 .f32) (i : S4000x64.Idx) :
    k1_pay4 x3 x7 x2 x9 i = (x2 i + ∑ q : Fin 64, k1_pay2 x3 (ix2 (i 0) q) * x7 (ix2 q (i 1))) + x9 (ix2 0 (i 1)) := by
  unfold k1_pay4
  pointwise
theorem pay1_apply (x0 : Vec Ideal S4000x128 .f32) (l r : FVec Ideal S4000x64 .f32) (x5 : Vec Ideal S128x64 .f32) (x10 : Vec Ideal S64x64 .f32) (x11 : Vec Ideal S1x64 .f32) (y : S1x1x4000.Idx) :
    k1_pay1 x0 l r x5 x10 x11 y = lg (fun d => l (ix2 (y 2) d)) (fun d => r (ix2 (y 2) d) + ∑ j : Fin 128, x0 (ix2 (y 2) j) * x5 (ix2 j d)) x10 (fun d => x11 (ix2 0 d)) := by
  unfold k1_pay1 lg leaky
  pointwise

end Cert.Lgt

end
-- ==== Proof.LogitsArr.lean ====
/- What the logits call leaves in its result array. -/
module

public import proofs.«01_k».proof.Proof.LogitsVal
public import Idealize.ShloMosaic.Lib.Pipeline.ValueKit

@[expose] public section

set_option maxRecDepth 16384

noncomputable section

namespace Cert.Lgt

open Cert.KernelIdeal Cert.KernelIdeal.Gen Cert.KernelIdeal.Run
open Idealize.ShloMosaic Idealize.ShloMosaic.TcCoe Idealize.ShloMosaic.Tactic
open Idealize.SL Idealize.SL.RA

/-- Entry number of an index of the array of eighty rows of 4000. -/
def eNo (i : S80x1x4000.Idx) : Fin 320000 := ⟨4000 * (i 0).val + (i 2).val, by
  have h0 : (i 0).val < 80 := (i 0).isLt
  have h2 : (i 2).val < 4000 := (i 2).isLt
  omega⟩

variable (V : (c : Dev nD) → (b : Ref sig .tc) → Buf (Elt Ideal) ((c : Thread nD τ).loc b))

/-- A preactivation of entry `e` in column `d`: the taken row, the query's part chosen by `w`, the bias and the relation's part. -/
def pre (e : Fin 320000) (w : BitVec 32) (T : S320000x64.Idx → EReal) (Q : S64x64.Idx → EReal) (B : S1x64.Idx → EReal)
    (R : S320000x128.Idx → EReal) (P : S128x64.Idx → EReal) (d : Fin 64) : EReal :=
  ((T (ix2 e d) + ∑ q : Fin 64, oneh w q * Q (ix2 q d)) + B (ix2 0 d)) + ∑ j : Fin 128, R (ix2 e j) * P (ix2 j d)

theorem i1_0 : ∀ t : Fin cfg1.N, win1_0.index t = ![t.val, 0] := (by decide +kernel : ∀ t : Fin grid1.N, _)
theorem i1_1 : ∀ t : Fin cfg1.N, win1_1.index t = ![t.val, 0] := (by decide +kernel : ∀ t : Fin grid1.N, _)
theorem i1_2 : ∀ t : Fin cfg1.N, win1_2.index t = ![t.val, 0] := (by decide +kernel : ∀ t : Fin grid1.N, _)
theorem i1_3 : ∀ t : Fin cfg1.N, win1_3.index t = ![t.val, 0, 0] := (by decide +kernel : ∀ t : Fin grid1.N, _)
theorem i1_4 : ∀ t : Fin cfg1.N, win1_4.index t = ![0, 0] := (by decide +kernel : ∀ t : Fin grid1.N, _)
theorem i1_5 : ∀ t : Fin cfg1.N, win1_5.index t = ![0, 0] := (by decide +kernel : ∀ t : Fin grid1.N, _)
theorem i1_6 : ∀ t : Fin cfg1.N, win1_6.index t = ![0, 0] := (by decide +kernel : ∀ t : Fin grid1.N, _)
theorem i1_7 : ∀ t : Fin cfg1.N, win1_7.index t = ![0, 0] := (by decide +kernel : ∀ t : Fin grid1.N, _)
theorem i1_8 : ∀ t : Fin cfg1.N, win1_8.index t = ![0, 0] := (by decide +kernel : ∀ t : Fin grid1.N, _)
theorem i1_9 : ∀ t : Fin cfg1.N, win1_9.index t = ![0, 0] := (by decide +kernel : ∀ t : Fin grid1.N, _)
theorem i1_10 : ∀ t : Fin cfg1.N, win1_10.index t = ![0, 0] := (by decide +kernel : ∀ t : Fin grid1.N, _)
theorem i1_11 : ∀ t : Fin cfg1.N, win1_11.index t = ![0, 0] := (by decide +kernel : ∀ t : Fin grid1.N, _)
theorem i1_12 : ∀ t : Fin cfg1.N, win1_12.index t = ![t.val, 0, 0] := (by decide +kernel : ∀ t : Fin grid1.N, _)

section
variable (c : Dev nD) (t : Fin cfg1.N) (y : S1x1x4000.Idx) (i : S80x1x4000.Idx) (h0 : (i 0).val = t.val) (h2 : (i 2).val = (y 2).val)
include h0 h2

theorem b1_0 (j : Fin 128) : iblk1 V c 0 t (ix2 (y 2) j) = V c main_arg2 (ix2 (eNo i) j) := by
  blk_ext [iblk1, i1_0, eNo]
theorem b1_1 (d : Fin 64) : iblk1 V c 1 t (ix2 (y 2) d) = V c main_v46 (ix2 (eNo i) d) := by
  blk_ext [iblk1, i1_1, eNo]
theorem b1_2 (d : Fin 64) : iblk1 V c 2 t (ix2 (y 2) d) = V c main_v47 (ix2 (eNo i) d) := by
  blk_ext [iblk1, i1_2, eNo]
theorem b1_3 : iblk1 V c 3 t (ix3 0 0 (y 2)) = V c main_v49 i := by
  blk_ext [iblk1, i1_3]
end
theorem b1_4 (c : Dev nD) (t : Fin cfg1.N) : iblk1 V c 4 t = V c main_v12 := by
  funext j; blk_ext [iblk1, i1_4]
theorem b1_5 (c : Dev nD) (t : Fin cfg1.N) : iblk1 V c 5 t = V c main_v13 := by
  funext j; blk_ext [iblk1, i1_5]
theorem b1_6 (c : Dev nD) (t : Fin cfg1.N) : iblk1 V c 6 t = V c main_v30 := by
  funext j; blk_ext [iblk1, i1_6]
theorem b1_7 (c : Dev nD) (t : Fin cfg1.N) : iblk1 V c 7 t = V c main_v35 := by
  funext j; blk_ext [iblk1, i1_7]
theorem b1_8 (c : Dev nD) (t : Fin cfg1.N) : iblk1 V c 8 t = V c main_v50 := by
  funext j; blk_ext [iblk1, i1_8]
theorem b1_9 (c : Dev nD) (t : Fin cfg1.N) : iblk1 V c 9 t = V c main_v51 := by
  funext j; blk_ext [iblk1, i1_9]
theorem b1_10 (c : Dev nD) (t : Fin cfg1.N) : iblk1 V c 10 t = V c main_arg17 := by
  funext j; blk_ext [iblk1, i1_10]
theorem b1_11 (c : Dev nD) (t : Fin cfg1.N) : iblk1 V c 11 t = V c main_v52 := by
  funext j; blk_ext [iblk1, i1_11]

set_option maxHeartbeats 2000000 in
theorem lgt_arr (c : Dev nD) : (dat1 V c).arrAt 12 cfg1.N
    = fun i : S80x1x4000.Idx => lg (pre (eNo i) (V c main_v49 i) (V c main_v46) (V c main_v30) (V c main_v50) (V c main_arg2) (V c main_v12)) (pre (eNo i) (V c main_v49 i) (V c main_v47) (V c main_v35) (V c main_v51) (V c main_arg2) (V c main_v13)) (V c main_arg17) (fun d => V c main_v52 (ix2 0 d)) := by
  refine (dat1 V c).arrAt_eq_of_covers 12 _ (by decide +kernel) fun t hf y => ?_
  blk_simp
  rw [after1_12]
  unfold lgtOut
  refine (pay1_apply _ _ _ _ _ _ y).trans ?_
  generalize hi : (((cfg1.win 12).blk t).view.emb y : S80x1x4000.Idx) = i
  have h0 : (i 0).val = t.val := by subst hi; blk_simp [i1_12]
  have h2 : (i 2).val = (y 2).val := by subst hi; blk_simp [i1_12]
  have hl : ∀ d : Fin 64, k1_pay3 (iblk1 V c 0 t) (iblk1 V c 3 t) (iblk1 V c 6 t) (iblk1 V c 1 t) (iblk1 V c 8 t) (iblk1 V c 4 t) (ix2 (y 2) d) = pre (eNo i) (V c main_v49 i) (V c main_v46) (V c main_v30) (V c main_v50) (V c main_arg2) (V c main_v12) d := by
    intro d
    rw [pay3_apply]
    unfold pre
    simp only [pay2_apply]
    refine congrArg₂ (· + ·) (congrArg₂ (· + ·) (congrArg₂ (· + ·) (b1_1 V c t y i h0 h2 d) ?_) ?_) ?_
    · refine Finset.sum_congr rfl fun q _ => ?_
      exact congrArg₂ (· * ·) (congrArg (oneh · q) (b1_3 V c t y i h0 h2)) (congrFun (b1_6 V c t) _)
    · exact congrFun (b1_8 V c t) _
    · refine Finset.sum_congr rfl fun j _ => ?_
      exact congrArg₂ (· * ·) (b1_0 V c t y i h0 h2 j) (congrFun (b1_4 V c t) _)
  have hr : ∀ d : Fin 64, k1_pay4 (iblk1 V c 3 t) (iblk1 V c 7 t) (iblk1 V c 2 t) (iblk1 V c 9 t) (ix2 (y 2) d)
      + ∑ j : Fin 128, (show EReal from iblk1 V c 0 t (ix2 (y 2) j)) * (show EReal from iblk1 V c 5 t (ix2 j d)) = pre (eNo i) (V c main_v49 i) (V c main_v47) (V c main_v35) (V c main_v51) (V c main_arg2) (V c main_v13) d := by
    intro d
    rw [pay4_apply]
    unfold pre
    simp only [pay2_apply]
    refine congrArg₂ (· + ·) (congrArg₂ (· + ·) (congrArg₂ (· + ·) (b1_2 V c t y i h0 h2 d) ?_) ?_) ?_
    · refine Finset.sum_congr rfl fun q _ => ?_
      exact congrArg₂ (· * ·) (congrArg (oneh · q) (b1_3 V c t y i h0 h2)) (congrFun (b1_7 V c t) _)
    · exact congrFun (b1_9 V c t) _
    · refine Finset.sum_congr rfl fun j _ => ?_
      exact congrArg₂ (· * ·) (b1_0 V c t y i h0 h2 j) (congrFun (b1_5 V c t) _)
  have e1 := funext hl
  have e2 := funext hr
  have e3 : (fun d : Fin 64 => iblk1 V c 11 t (ix2 0 d)) = fun d => V c main_v52 (ix2 0 d) := funext fun d => congrFun (b1_11 V c t) _
  refine (congr (congr (congrArg₂ lg e1 e2) (b1_10 V c t)) e3).trans ?_
  rfl

end Cert.Lgt

end
-- ==== Proof.HostVals.lean ====
/- What the host's operations between the calls leave, read at an index. -/
module

public import proofs.«01_k».proof.Proof.Bounds
public import proofs.«01_k».proof.Proof.TablesArr
public import proofs.«01_k».proof.Proof.LogitsArr
public import Idealize.ShloMosaic.Lib.StableHlo.ReadAt

@[expose] public section

set_option maxRecDepth 16384

noncomputable section

namespace Cert.Lgt

open Cert.KernelIdeal Cert.KernelIdeal.Gen Cert.KernelIdeal.Run
open Idealize.ShloMosaic Idealize.ShloMosaic.TcCoe Idealize.ShloMosaic.Tactic
open Idealize.SL Idealize.SL.RA

/-- Row `o + k` of the five stacked blocks of weights. -/
def off (o : ℕ) (h : o ≤ 256) (k : Fin 64) : Fin 320 := ⟨o + k.val, by have := k.isLt; omega⟩

/-- The projection's weights times the block of `W` that starts at row `o`. -/
def foldW (P : S128x64.Idx → EReal) (W : S320x64.Idx → EReal) (o : ℕ) (h : o ≤ 256) (j : Fin 128) (d : Fin 64) : EReal :=
  ∑ k : Fin 64, P (ix2 j k) * W (ix2 (off o h k) d)
/-- A row of `Q` projected. -/
def proj {n : ℕ} (Q : (⟨2, ![n, 128]⟩ : Shape).Idx → EReal) (P : S128x64.Idx → EReal) (b : S64.Idx → EReal) (r : Fin n) (k : Fin 64) : EReal :=
  (∑ j : Fin 128, Q (ix2 r j) * P (ix2 j k)) + b (ix1 k)
/-- The queries' part of the preactivation of row `r` of the batch. -/
def queryW (a3 a4 a5 : S64x128.Idx → EReal) (P : S128x64.Idx → EReal) (b : S64.Idx → EReal) (W : S320x64.Idx → EReal) (r d : Fin 64) : EReal :=
  ((∑ k : Fin 64, proj a3 P b r k * W (ix2 (off 128 (by decide) k) d)) + ∑ k : Fin 64, proj a4 P b r k * W (ix2 (off 192 (by decide) k) d))
    + ∑ k : Fin 64, proj a5 P b r k * W (ix2 (off 256 (by decide) k) d)
/-- The bias with the projection's bias folded in. -/
def biasW (lb b : S64.Idx → EReal) (W : S320x64.Idx → EReal) (d : Fin 64) : EReal :=
  (lb (ix1 d) + ∑ k : Fin 64, b (ix1 k) * W (ix2 (off 0 (by decide) k) d)) + ∑ k : Fin 64, b (ix1 k) * W (ix2 (off 64 (by decide) k) d)

variable (V : Valuation τ sig (Elt Ideal))

theorem h0_v10 (j : Fin 128) (d : Fin 64) : StableHlo.after hostOps0 V (Proc.devRef .tc main_v10) (ix2 j d)
    = foldW (V (Proc.devRef .tc main_arg11)) (V (Proc.devRef .tc main_arg13)) 0 (by decide) j d := by
  unfold foldW off
  after_reads_at
theorem h0_v30 (r d : Fin 64) : StableHlo.after hostOps0 V (Proc.devRef .tc main_v30) (ix2 r d)
    = queryW (V (Proc.devRef .tc main_arg3)) (V (Proc.devRef .tc main_arg4)) (V (Proc.devRef .tc main_arg5)) (V (Proc.devRef .tc main_arg11)) (V (Proc.devRef .tc main_arg12)) (V (Proc.devRef .tc main_arg13)) r d := by
  unfold queryW proj off
  after_reads_at
theorem h0_v39 (d : Fin 64) : StableHlo.after hostOps0 V (Proc.devRef .tc main_v39) (ix1 d)
    = biasW (V (Proc.devRef .tc main_arg14)) (V (Proc.devRef .tc main_arg12)) (V (Proc.devRef .tc main_arg13)) d := by
  unfold biasW off
  after_reads_at

theorem h0_v11 (j : Fin 128) (d : Fin 64) : StableHlo.after hostOps0 V (Proc.devRef .tc main_v11) (ix2 j d)
    = foldW (V (Proc.devRef .tc main_arg11)) (V (Proc.devRef .tc main_arg15)) 0 (by decide) j d := by
  unfold foldW off
  after_reads_at
theorem h0_v12 (j : Fin 128) (d : Fin 64) : StableHlo.after hostOps0 V (Proc.devRef .tc main_v12) (ix2 j d)
    = foldW (V (Proc.devRef .tc main_arg11)) (V (Proc.devRef .tc main_arg13)) 64 (by decide) j d := by
  unfold foldW off
  after_reads_at
theorem h0_v13 (j : Fin 128) (d : Fin 64) : StableHlo.after hostOps0 V (Proc.devRef .tc main_v13) (ix2 j d)
    = foldW (V (Proc.devRef .tc main_arg11)) (V (Proc.devRef .tc main_arg15)) 64 (by decide) j d := by
  unfold foldW off
  after_reads_at
theorem h0_v35 (r d : Fin 64) : StableHlo.after hostOps0 V (Proc.devRef .tc main_v35) (ix2 r d)
    = queryW (V (Proc.devRef .tc main_arg3)) (V (Proc.devRef .tc main_arg4)) (V (Proc.devRef .tc main_arg5)) (V (Proc.devRef .tc main_arg11)) (V (Proc.devRef .tc main_arg12)) (V (Proc.devRef .tc main_arg15)) r d := by
  unfold queryW proj off
  after_reads_at
theorem h0_v43 (d : Fin 64) : StableHlo.after hostOps0 V (Proc.devRef .tc main_v43) (ix1 d)
    = biasW (V (Proc.devRef .tc main_arg16)) (V (Proc.devRef .tc main_arg12)) (V (Proc.devRef .tc main_arg15)) d := by
  unfold biasW off
  after_reads_at
theorem h0_v44 (d : Fin 128) : StableHlo.after hostOps0 V (Proc.devRef .tc main_v44) (ix2 0 d) = V (Proc.devRef .tc main_arg20) (ix1 d) := by
  after_reads_at
theorem h1_v49 (i : S80x1x4000.Idx) : StableHlo.after hostOps1_3 V (Proc.devRef .tc main_v49) i = V (Proc.devRef .tc main_arg6) (ix1 (eNo i)) := by
  after_reads_at
  refine congrArg _ (congrArg ix1 (Fin.ext ?_))
  simp only [eNo]
  omega
theorem h1_v50 (d : Fin 64) : StableHlo.after hostOps1_3 V (Proc.devRef .tc main_v50) (ix2 0 d) = V (Proc.devRef .tc main_v39) (ix1 d) := by
  after_reads_at
theorem h1_v51 (d : Fin 64) : StableHlo.after hostOps1_3 V (Proc.devRef .tc main_v51) (ix2 0 d) = V (Proc.devRef .tc main_v43) (ix1 d) := by
  after_reads_at
theorem h1_v52 (d : Fin 64) : StableHlo.after hostOps1_3 V (Proc.devRef .tc main_v52) (ix2 0 d) = V (Proc.devRef .tc main_arg18) (ix1 d) := by
  after_reads_at
theorem h2_v54 (i : S80x1x4000.Idx) : StableHlo.after hostOps2 V (Proc.devRef .tc main_v54) i = V (Proc.devRef .tc main_arg9) (ix1 (eNo i)) := by
  after_reads_at
  refine congrArg _ (congrArg ix1 (Fin.ext ?_))
  simp only [eNo]
  omega
theorem h2_v55 (i : S80x1x4000.Idx) : StableHlo.after hostOps2 V (Proc.devRef .tc main_v55) i = V (Proc.devRef .tc main_arg0) (ix1 (eNo i)) := by
  after_reads_at
  refine congrArg _ (congrArg ix1 (Fin.ext ?_))
  simp only [eNo]
  omega

end Cert.Lgt

end
-- ==== Proof.Takes.lean ====
/- Taking rows: the wrapped and masked take of the host, of in-range indices, is the row. -/
module

public import proofs.«01_k».proof.Proof.Pre
public import Idealize.ShloMosaic.Lib.Routing.Ops
public import Idealize.ShloMosaic.Lib.Routing.OpsSearch
public import Idealize.ShloMosaic.Lib.Routing.OpsPair

@[expose] public section

set_option maxRecDepth 16384

noncomputable section

namespace Cert.Take

open Idealize.ShloMosaic
open Cert.Pre_inputs_ok (Below)

abbrev S_ : Shape := ⟨0, ![]⟩
abbrev S1 : Shape := ⟨1, ![1]⟩
abbrev S1x1 : Shape := ⟨2, ![1, 1]⟩

/-- The place that word `e` of an index array names among `N`. -/
def row (N : ℕ) [NeZero N] {n : ℕ} (w : (⟨1, ![n]⟩ : Shape).Idx → BitVec 32) (e : Fin n) : Fin N := Fin.ofNat N (w (ix1 e)).toNat

theorem toNat_of {w : BitVec 32} (h : 0 ≤ w.toInt) : (w.toNat : ℤ) = w.toInt := by
  rw [BitVec.toInt_eq_toNat_cond] at h ⊢
  have := w.isLt
  split_ifs at h ⊢ with hc
  · rfl
  · exfalso; omega

theorem row_val {N : ℕ} [NeZero N] {n : ℕ} {w : (⟨1, ![n]⟩ : Shape).Idx → BitVec 32} (hw : Below N w) (e : Fin n) : ((row N w e).val : ℤ) = (w (ix1 e)).toInt := by
  obtain ⟨h1, h2⟩ := hw (ix1 e)
  have h3 := toNat_of h1
  have h4 : (row N w e).val = (w (ix1 e)).toNat := Nat.mod_eq_of_lt (by omega)
  rw [h4, h3]
theorem word_eq {N : ℕ} [NeZero N] {n : ℕ} {w : (⟨1, ![n]⟩ : Shape).Idx → BitVec 32} (hw : Below N w) (e : Fin n) : w (ix1 e) = BitVec.ofNat 32 (row N w e).val := by
  obtain ⟨h1, h2⟩ := hw (ix1 e)
  have h3 := toNat_of h1
  have h4 : (row N w e).val = (w (ix1 e)).toNat := Nat.mod_eq_of_lt (by omega)
  rw [h4, BitVec.ofNat_toNat, BitVec.setWidth_eq]

/-- An index that is not negative wraps to itself. -/
theorem wrap {n : ℕ} (N : BitVec 32) (w : IVec ⟨1, ![n]⟩ 32) (hw : ∀ i, 0 ≤ (w i).toInt) (b5 : (⟨1, ![n]⟩ : Shape).BroadcastsInDim ⟨2, ![n, 1]⟩ (![0] : Fin 1 → Fin 2))
    (b6 : S_.BroadcastsInDim ⟨1, ![n]⟩ (![] : Fin 0 → Fin 1)) (hn : n ≠ 1) (e : Fin n) :
    broadcastInDim ⟨2, ![n, 1]⟩ ![0] b5 (select (cmpi .slt w (broadcastInDim ⟨1, ![n]⟩ ![] b6 (constantI S_ 32 0#32)))
      (addi w (broadcastInDim ⟨1, ![n]⟩ ![] b6 (constantI S_ 32 N))) w) (ix2 e 0) = w (ix1 e) := by
  refine (broadcastInDim_apply _ b5 _ _ (ix1 e) fun a => ?_).trans ?_
  · match a with
    | ⟨0, _⟩ => exact (if_neg hn).symm
  · refine Routing.wrap_of_lt (w (ix1 e)) _ ?_
    have h := hw (ix1 e)
    have h3 := toNat_of h
    have := BitVec.toInt_lt (x := w (ix1 e))
    simp at this ⊢
    omega

/-- The masked take of rows. -/
theorem rows {N B : ℕ} [NeZero N] (hN : N < 2 ^ 31) (d : GatherDims ⟨2, ![N, B]⟩ ⟨2, ![320000, 1]⟩ ⟨2, ![320000, B]⟩) (hoff : d.offsetDims = [1])
    (hcoll : d.collapsedSliceDims = [0]) (hob : d.operandBatchingDims = []) (hsim : d.startIndexMap = [0]) (hivd : d.indexVectorDim = 1)
    (hi : BitVec 32) (hhi : hi.toInt + 1 = N) (x : FVec Ideal ⟨2, ![N, B]⟩ .f32) (w : IVec ⟨1, ![320000]⟩ 32) (hw : Below N w)
    (ix : IVec ⟨2, ![320000, 1]⟩ 32) (hix : ∀ e, ix (ix2 e 0) = w (ix1 e))
    (b1 : (⟨1, ![320000]⟩ : Shape).BroadcastsInDim ⟨2, ![320000, B]⟩ (![0] : Fin 1 → Fin 2))
    (b2 : S_.BroadcastsInDim ⟨2, ![320000, 1]⟩ (![] : Fin 0 → Fin 2)) (b3 : S1x1.BroadcastsInDim ⟨2, ![320000, 1]⟩ (![0, 1] : Fin 2 → Fin 2))
    (b4 : S1.BroadcastsInDim S1x1 (![1] : Fin 1 → Fin 2)) (b7 : S_.BroadcastsInDim ⟨2, ![320000, B]⟩ (![] : Fin 0 → Fin 2))
    (hr : (⟨2, ![320000, 1]⟩ : Shape).ReducesTo [1] ⟨1, ![320000]⟩) (hu : 0 < S_.numel) (nan : BitVec 32) (e : Fin 320000) (y : Fin B) :
    select (broadcastInDim ⟨2, ![320000, B]⟩ ![0] b1 (Host.reduce IntOp.andi (andi (cmpi .sge ix (broadcastInDim ⟨2, ![320000, 1]⟩ ![] b2 (constantI S_ 32 0#32)))
        (cmpi .sle ix (broadcastInDim ⟨2, ![320000, 1]⟩ ![0, 1] b3 (broadcastInDim S1x1 ![1] b4 (constantI S1 32 hi))))) (constantI S_ 1 1#1) hr hu))
      (Host.gather d x ix) (broadcastInDim ⟨2, ![320000, B]⟩ ![] b7 (constant S_ .f32 nan)) (ix2 e y) = x (ix2 (row N w e) y) := by
  have hm : (broadcastInDim ⟨2, ![320000, B]⟩ ![0] b1 (Host.reduce IntOp.andi (andi (cmpi .sge ix (broadcastInDim ⟨2, ![320000, 1]⟩ ![] b2 (constantI S_ 32 0#32)))
        (cmpi .sle ix (broadcastInDim ⟨2, ![320000, 1]⟩ ![0, 1] b3 (broadcastInDim S1x1 ![1] b4 (constantI S1 32 hi))))) (constantI S_ 1 1#1) hr hu)) (ix2 e y) = 1#1 := by
    refine (broadcastInDim_apply _ b1 _ _ (ix1 e) fun a => ?_).trans ?_
    · match a with
      | ⟨0, _⟩ => exact (if_neg (by decide : ¬ (320000 = 1))).symm
    · refine Host.reduce_andi_one _ _ hr hu _ rfl fun i => ?_
      have hi' : i = ix2 (i 0) 0 := by
        funext a
        match a with
        | ⟨0, _⟩ => rfl
        | ⟨1, _⟩ => exact Fin.ext (by have : (i 1).val < 1 := (i 1).isLt; show (i 1).val = 0; omega)
      have hixi : ix i = w (ix1 (i 0)) := by rw [hi']; exact hix _
      obtain ⟨h1, h2⟩ := hw (ix1 (i 0))
      refine IntOp.andi_eq_one.2 ⟨IntOp.cmpi_sge.2 ?_, IntOp.cmpi_sle.2 ?_⟩
      · rw [hixi]; exact h1
      · rw [hixi]
        show (w (ix1 (i 0))).toInt ≤ hi.toInt
        omega
  show Scalar.select _ _ _ = _
  rw [hm]
  refine (ValueIdx.select_one _ _).trans ?_
  exact Routing.gather_row d hoff hcoll hob hsim hivd x ix e y (row N w e) ((hix e).trans (word_eq hw e)) hN

/-- The plain take of a vector's entries. -/
theorem entries {α : Type} {N n : ℕ} [NeZero N] (hN : N < 2 ^ 31) (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (w : IVec ⟨1, ![n]⟩ 32) (hw : Below N w)
    (ix : IVec ⟨2, ![n, 1]⟩ 32) (hix : ∀ e, ix (ix2 e 0) = w (ix1 e)) (e : Fin n) : Host.gather d x ix (ix1 e) = x (ix1 (row N w e)) :=
  Routing.take_ap d hcoll hob hsim hivd x ix e (row N w e).isLt (lt_trans (row N w e).isLt hN) ((hix e).trans (word_eq hw e))

end Cert.Take

end
-- ==== Proof.HostTakes.lean ====
/- The kernel's three takes, read at an index. -/
module

public import proofs.«01_k».proof.Proof.Bounds
public import proofs.«01_k».proof.Proof.Takes
public import Idealize.ShloMosaic.Lib.StableHlo.ReadAt

@[expose] public section

set_option maxRecDepth 16384

noncomputable section

namespace Cert.Lgt

open Cert.KernelIdeal Cert.KernelIdeal.Gen Cert.KernelIdeal.Run
open Idealize.ShloMosaic Idealize.ShloMosaic.TcCoe Idealize.ShloMosaic.Tactic
open Idealize.SL Idealize.SL.RA
open Cert.Pre_inputs_ok (Below)

variable (V : Valuation τ sig (Elt Ideal))

theorem h1_v46 (hw : Below 50000 (V (Proc.devRef .tc main_arg7) : S320000.Idx → BitVec 32)) (e : Fin 320000) (d : Fin 64) :
    StableHlo.after hostOps1 V (Proc.devRef .tc main_v46) (ix2 e d) = V (Proc.devRef .tc main_v45_0) (ix2 (Take.row 50000 (V (Proc.devRef .tc main_arg7)) e) d) := by
  after_reads_simp
  simp -implicitDefEqProofs only [StableHlo.TRef.toBuf, StableHlo.TRef.ofBuf, cast_cast, cast_eq]
  exact Take.rows (by norm_num) gather_S50000x64_S320000x1_S320000x64_1_0_n_n_0_1_164 rfl rfl rfl rfl rfl 49999#32 (by decide) _ _ hw _
    (Take.wrap _ _ (fun i => (hw i).1) _ _ (by decide)) _ _ _ _ _ _ _ _ e d
theorem h1_v47 (hw : Below 50000 (V (Proc.devRef .tc main_arg8) : S320000.Idx → BitVec 32)) (e : Fin 320000) (d : Fin 64) :
    StableHlo.after hostOps1_1 V (Proc.devRef .tc main_v47) (ix2 e d) = V (Proc.devRef .tc main_v45_1) (ix2 (Take.row 50000 (V (Proc.devRef .tc main_arg8)) e) d) := by
  after_reads_simp
  simp -implicitDefEqProofs only [StableHlo.TRef.toBuf, StableHlo.TRef.ofBuf, cast_cast, cast_eq]
  exact Take.rows (by norm_num) gather_S50000x64_S320000x1_S320000x64_1_0_n_n_0_1_164 rfl rfl rfl rfl rfl 49999#32 (by decide) _ _ hw _
    (Take.wrap _ _ (fun i => (hw i).1) _ _ (by decide)) _ _ _ _ _ _ _ _ e d
theorem h1_v48 (hw : Below 50000 (V (Proc.devRef .tc main_arg8) : S320000.Idx → BitVec 32)) (e : Fin 320000) (d : Fin 128) :
    StableHlo.after hostOps1_2 V (Proc.devRef .tc main_v48) (ix2 e d) = V (Proc.devRef .tc main_v45_2) (ix2 (Take.row 50000 (V (Proc.devRef .tc main_arg8)) e) d) := by
  after_reads_simp
  simp -implicitDefEqProofs only [StableHlo.TRef.toBuf, StableHlo.TRef.ofBuf, cast_cast, cast_eq]
  exact Take.rows (by norm_num) gather_S50000x128_S320000x1_S320000x128_1_0_n_n_0_1_1128 rfl rfl rfl rfl rfl 49999#32 (by decide) _ _ hw _
    (Take.wrap _ _ (fun i => (hw i).1) _ _ (by decide)) _ _ _ _ _ _ _ _ e d

end Cert.Lgt

end
-- ==== Proof.KLogits.lean ====
/- The kernel's logits as a function of the arguments. -/
module

public import proofs.«01_k».proof.Proof.HostVals
public import proofs.«01_k».proof.Proof.HostTakes

@[expose] public section

set_option maxRecDepth 16384

noncomputable section

namespace Cert.Lgt

open Cert.KernelIdeal Cert.KernelIdeal.Gen Cert.KernelIdeal.Run
open Idealize.ShloMosaic Idealize.ShloMosaic.TcCoe Idealize.ShloMosaic.Tactic
open Idealize.SL Idealize.SL.RA
open Cert.Pre_inputs_ok (Below)

/-- The memory's row `n` times the folded weights. -/
def memW (a1 : S50000x128.Idx → EReal) (P : S128x64.Idx → EReal) (W : S320x64.Idx → EReal) (n : Fin 50000) (d : Fin 64) : EReal :=
  ∑ j : Fin 128, a1 (ix2 n j) * foldW P W 0 (by decide) j d
/-- The message of the memory's row `n`. -/
def msg (a1 : S50000x128.Idx → EReal) (M : S128x128.Idx → EReal) (l : S128.Idx → EReal) (n : Fin 50000) (d : Fin 128) : EReal :=
  (∑ j : Fin 128, a1 (ix2 n j) * M (ix2 j d)) + l (ix1 d)
/-- A preactivation as the kernel computes it: the memory's row times the folded weights, the queries' part, the bias, the relation's part. -/
def preK (a1 : S50000x128.Idx → EReal) (a2 : S320000x128.Idx → EReal) (a3 a4 a5 : S64x128.Idx → EReal) (a6 : S320000.Idx → BitVec 32) (P : S128x64.Idx → EReal)
    (b : S64.Idx → EReal) (v : S320000.Idx → BitVec 32) (W : S320x64.Idx → EReal) (lb : S64.Idx → EReal) (e : Fin 320000) (d : Fin 64) : EReal :=
  ((memW a1 P W (Take.row 50000 v e) d + ∑ q : Fin 64, oneh (a6 (ix1 e)) q * queryW a3 a4 a5 P b W q d) + biasW lb b W d)
    + ∑ j : Fin 128, a2 (ix2 e j) * foldW P W 64 (by decide) j d

variable (m : (ℓ : Loc nD τ sig) → Buf (Elt Ideal) ℓ) (ρ : Dev nD → PrngReg) (c : Dev nD)

theorem keep61 (r : Ref sig .tc) (h6 : r ∉ hostOps1_3_W) (h5 : r ∉ hostOps1_2_W) (h4 : r ∉ hostOps1_1_W) (h3 : r ∉ hostOps1_W)
    (h2 : ∀ w : Fin cfg0.W, Pipeline.arrRef spec0 w = r → (cfg0.win w).isOut = false) : W6 m ρ c (Proc.devRef .tc r) = W1 m ρ c (Proc.devRef .tc r) :=
  (W6_of m ρ c r h6).trans ((W5_of m ρ c r h5).trans ((W4_of m ρ c r h4).trans ((W3_of m ρ c r h3).trans (W2_of m ρ c r h2))))

theorem k_v12 (j : Fin 128) (d : Fin 64) : V6 m ρ c main_v12 (ix2 j d) = foldW (m ((c : Thread nD τ).loc main_arg11)) (m ((c : Thread nD τ).loc main_arg13)) 64 (by decide) j d :=
  (congrFun (keep61 m ρ c main_v12 (by decide) (by decide) (by decide) (by decide) (by decide)) _).trans (h0_v12 (W0 m ρ c) j d)
theorem k_v13 (j : Fin 128) (d : Fin 64) : V6 m ρ c main_v13 (ix2 j d) = foldW (m ((c : Thread nD τ).loc main_arg11)) (m ((c : Thread nD τ).loc main_arg15)) 64 (by decide) j d :=
  (congrFun (keep61 m ρ c main_v13 (by decide) (by decide) (by decide) (by decide) (by decide)) _).trans (h0_v13 (W0 m ρ c) j d)
theorem k_v30 (r d : Fin 64) : V6 m ρ c main_v30 (ix2 r d) = queryW (m ((c : Thread nD τ).loc main_arg3)) (m ((c : Thread nD τ).loc main_arg4)) (m ((c : Thread nD τ).loc main_arg5)) (m ((c : Thread nD τ).loc main_arg11)) (m ((c : Thread nD τ).loc main_arg12)) (m ((c : Thread nD τ).loc main_arg13)) r d :=
  (congrFun (keep61 m ρ c main_v30 (by decide) (by decide) (by decide) (by decide) (by decide)) _).trans (h0_v30 (W0 m ρ c) r d)
theorem k_v35 (r d : Fin 64) : V6 m ρ c main_v35 (ix2 r d) = queryW (m ((c : Thread nD τ).loc main_arg3)) (m ((c : Thread nD τ).loc main_arg4)) (m ((c : Thread nD τ).loc main_arg5)) (m ((c : Thread nD τ).loc main_arg11)) (m ((c : Thread nD τ).loc main_arg12)) (m ((c : Thread nD τ).loc main_arg15)) r d :=
  (congrFun (keep61 m ρ c main_v35 (by decide) (by decide) (by decide) (by decide) (by decide)) _).trans (h0_v35 (W0 m ρ c) r d)
theorem keep51 (r : Ref sig .tc) (h5 : r ∉ hostOps1_2_W) (h4 : r ∉ hostOps1_1_W) (h3 : r ∉ hostOps1_W)
    (h2 : ∀ w : Fin cfg0.W, Pipeline.arrRef spec0 w = r → (cfg0.win w).isOut = false) : W5 m ρ c (Proc.devRef .tc r) = W1 m ρ c (Proc.devRef .tc r) :=
  (W5_of m ρ c r h5).trans ((W4_of m ρ c r h4).trans ((W3_of m ρ c r h3).trans (W2_of m ρ c r h2)))
theorem k_v50 (d : Fin 64) : V6 m ρ c main_v50 (ix2 0 d) = biasW (m ((c : Thread nD τ).loc main_arg14)) (m ((c : Thread nD τ).loc main_arg12)) (m ((c : Thread nD τ).loc main_arg13)) d :=
  (h1_v50 (W5 m ρ c) d).trans ((congrFun (keep51 m ρ c main_v39 (by decide) (by decide) (by decide) (by decide)) _).trans (h0_v39 (W0 m ρ c) d))
theorem k_v51 (d : Fin 64) : V6 m ρ c main_v51 (ix2 0 d) = biasW (m ((c : Thread nD τ).loc main_arg16)) (m ((c : Thread nD τ).loc main_arg12)) (m ((c : Thread nD τ).loc main_arg15)) d :=
  (h1_v51 (W5 m ρ c) d).trans ((congrFun (keep51 m ρ c main_v43 (by decide) (by decide) (by decide) (by decide)) _).trans (h0_v43 (W0 m ρ c) d))
theorem k_v52 (d : Fin 64) : V6 m ρ c main_v52 (ix2 0 d) = (m ((c : Thread nD τ).loc main_arg18)) (ix1 d) :=
  (h1_v52 (W5 m ρ c) d).trans (congrFun (W5_args m ρ c main_arg18 (by decide)) _)
theorem k_v49 (i : S80x1x4000.Idx) : V6 m ρ c main_v49 i = (m ((c : Thread nD τ).loc main_arg6)) (ix1 (eNo i)) :=
  (h1_v49 (W5 m ρ c) i).trans (congrFun (W5_args m ρ c main_arg6 (by decide)) _)

theorem k_tabL (n : Fin 50000) (d : Fin 64) : W2 m ρ c (Proc.devRef .tc main_v45_0) (ix2 n d)
    = memW (m ((c : Thread nD τ).loc main_arg1)) (m ((c : Thread nD τ).loc main_arg11)) (m ((c : Thread nD τ).loc main_arg13)) n d := by
  refine (congrFun ((W2_arr m ρ c 5).trans (tab_L (V1 m ρ) c)) _).trans ?_
  show mm (V1 m ρ c main_arg1) (V1 m ρ c main_v10) n d = _
  unfold mm memW
  refine Finset.sum_congr rfl fun j _ => congrArg₂ (· * ·) ?_ (h0_v10 (W0 m ρ c) j d)
  exact congrFun (W1_args m ρ c main_arg1 (by decide)) _
theorem k_tabR (n : Fin 50000) (d : Fin 64) : W2 m ρ c (Proc.devRef .tc main_v45_1) (ix2 n d)
    = memW (m ((c : Thread nD τ).loc main_arg1)) (m ((c : Thread nD τ).loc main_arg11)) (m ((c : Thread nD τ).loc main_arg15)) n d := by
  refine (congrFun ((W2_arr m ρ c 6).trans (tab_R (V1 m ρ) c)) _).trans ?_
  show mm (V1 m ρ c main_arg1) (V1 m ρ c main_v11) n d = _
  unfold mm memW
  refine Finset.sum_congr rfl fun j _ => congrArg₂ (· * ·) ?_ (h0_v11 (W0 m ρ c) j d)
  exact congrFun (W1_args m ρ c main_arg1 (by decide)) _
theorem k_tabM (n : Fin 50000) (d : Fin 128) : W2 m ρ c (Proc.devRef .tc main_v45_2) (ix2 n d)
    = msg (m ((c : Thread nD τ).loc main_arg1)) (m ((c : Thread nD τ).loc main_arg19)) (m ((c : Thread nD τ).loc main_arg20)) n d := by
  refine (congrFun ((W2_arr m ρ c 7).trans (tab_M (V1 m ρ) c)) _).trans ?_
  show (mm (V1 m ρ c main_arg1) (V1 m ρ c main_arg19) n d + (show EReal from V1 m ρ c main_v44 (ix2 0 d)) : EReal) = _
  unfold mm msg
  refine congrArg₂ (· + ·) (Finset.sum_congr rfl fun j _ => congrArg₂ (· * ·) ?_ ?_) (h0_v44 (W0 m ρ c) d)
  · exact congrFun (W1_args m ρ c main_arg1 (by decide)) _
  · exact congrFun (W1_args m ρ c main_arg19 (by decide)) _

theorem k_v46 (hw : Below 50000 ((m ((c : Thread nD τ).loc main_arg7)) : S320000.Idx → BitVec 32)) (e : Fin 320000) (d : Fin 64) : V6 m ρ c main_v46 (ix2 e d)
    = memW (m ((c : Thread nD τ).loc main_arg1)) (m ((c : Thread nD τ).loc main_arg11)) (m ((c : Thread nD τ).loc main_arg13)) (Take.row 50000 (m ((c : Thread nD τ).loc main_arg7)) e) d := by
  have ha : W2 m ρ c (Proc.devRef .tc main_arg7) = (m ((c : Thread nD τ).loc main_arg7)) := W2_args m ρ c main_arg7 (by decide)
  refine (congrFun ((W6_of m ρ c main_v46 (by decide)).trans ((W5_of m ρ c main_v46 (by decide)).trans (W4_of m ρ c main_v46 (by decide)))) _).trans ?_
  refine (h1_v46 (W2 m ρ c) (ha ▸ hw) e d).trans ?_
  rw [ha]
  exact k_tabL m ρ c _ d
theorem k_v47 (hw : Below 50000 ((m ((c : Thread nD τ).loc main_arg8)) : S320000.Idx → BitVec 32)) (e : Fin 320000) (d : Fin 64) : V6 m ρ c main_v47 (ix2 e d)
    = memW (m ((c : Thread nD τ).loc main_arg1)) (m ((c : Thread nD τ).loc main_arg11)) (m ((c : Thread nD τ).loc main_arg15)) (Take.row 50000 (m ((c : Thread nD τ).loc main_arg8)) e) d := by
  have ha : W3 m ρ c (Proc.devRef .tc main_arg8) = (m ((c : Thread nD τ).loc main_arg8)) := W3_args m ρ c main_arg8 (by decide)
  refine (congrFun ((W6_of m ρ c main_v47 (by decide)).trans (W5_of m ρ c main_v47 (by decide))) _).trans ?_
  refine (h1_v47 (W3 m ρ c) (ha ▸ hw) e d).trans ?_
  rw [ha]
  exact (congrFun (W3_of m ρ c main_v45_1 (by decide)) _).trans (k_tabR m ρ c _ d)
theorem k_v48 (hw : Below 50000 ((m ((c : Thread nD τ).loc main_arg8)) : S320000.Idx → BitVec 32)) (e : Fin 320000) (d : Fin 128) : W5 m ρ c (Proc.devRef .tc main_v48) (ix2 e d)
    = msg (m ((c : Thread nD τ).loc main_arg1)) (m ((c : Thread nD τ).loc main_arg19)) (m ((c : Thread nD τ).loc main_arg20)) (Take.row 50000 (m ((c : Thread nD τ).loc main_arg8)) e) d := by
  have ha : W4 m ρ c (Proc.devRef .tc main_arg8) = (m ((c : Thread nD τ).loc main_arg8)) := W4_args m ρ c main_arg8 (by decide)
  refine (h1_v48 (W4 m ρ c) (ha ▸ hw) e d).trans ?_
  rw [ha]
  exact (congrFun ((W4_of m ρ c main_v45_2 (by decide)).trans (W3_of m ρ c main_v45_2 (by decide))) _).trans (k_tabM m ρ c _ d)

/-- The logits. -/
theorem k_lgt (h7 : Below 50000 ((m ((c : Thread nD τ).loc main_arg7)) : S320000.Idx → BitVec 32)) (h8 : Below 50000 ((m ((c : Thread nD τ).loc main_arg8)) : S320000.Idx → BitVec 32)) (i : S80x1x4000.Idx) :
    W7 m ρ c (Proc.devRef .tc main_v53) i
      = lg (preK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg7)) (m ((c : Thread nD τ).loc main_arg13)) (m ((c : Thread nD τ).loc main_arg14)) (eNo i))
          (preK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg8)) (m ((c : Thread nD τ).loc main_arg15)) (m ((c : Thread nD τ).loc main_arg16)) (eNo i))
          (m ((c : Thread nD τ).loc main_arg17)) (fun d => (m ((c : Thread nD τ).loc main_arg18)) (ix1 d)) := by
  refine (congrFun ((W7_arr m ρ c 12).trans (lgt_arr (V6 m ρ) c)) _).trans ?_
  have h2 : V6 m ρ c main_arg2 = (m ((c : Thread nD τ).loc main_arg2)) := W6_args m ρ c main_arg2 (by decide)
  refine congr (congr (congrArg₂ lg (funext fun d => ?_) (funext fun d => ?_)) (W6_args m ρ c main_arg17 (by decide))) (funext fun d => k_v52 m ρ c d)
  · unfold pre preK
    rw [k_v49, h2]
    refine congrArg₂ (· + ·) (congrArg₂ (· + ·) (congrArg₂ (· + ·) (k_v46 m ρ c h7 _ d) ?_) (k_v50 m ρ c d)) ?_
    · exact Finset.sum_congr rfl fun q _ => congrArg _ (k_v30 m ρ c q d)
    · exact Finset.sum_congr rfl fun q _ => congrArg _ (k_v12 m ρ c q d)
  · unfold pre preK
    rw [k_v49, h2]
    refine congrArg₂ (· + ·) (congrArg₂ (· + ·) (congrArg₂ (· + ·) (k_v47 m ρ c h8 _ d) ?_) (k_v51 m ρ c d)) ?_
    · exact Finset.sum_congr rfl fun q _ => congrArg _ (k_v35 m ρ c q d)
    · exact Finset.sum_congr rfl fun q _ => congrArg _ (k_v13 m ρ c q d)

end Cert.Lgt

end
-- ==== Proof.RefLogits.lean ====
/- The reference's logits, read at an index. -/
module

public import proofs.«01_k».proof.Proof.Gen.ReferenceIdeal.Run
public import proofs.«01_k».proof.Proof.Takes
public import proofs.«01_k».proof.Proof.HostVals
public import Idealize.ShloMosaic.Lib.Tactic.CleanTypes

@[expose] public section

set_option maxRecDepth 16384

noncomputable section

namespace Cert.Ref

open Cert.ReferenceIdeal Cert.ReferenceIdeal.Gen Cert.ReferenceIdeal.Value
open Idealize.ShloMosaic Idealize.ShloMosaic.TcCoe Idealize.ShloMosaic.Tactic
open Cert.Lgt (leaky lg off proj)
open Cert.Pre_inputs_ok (Below)

/-- A sum over the five stacked blocks of 64. -/
theorem sum320 (f : Fin 320 → EReal) : ∑ x, f x = ((((∑ k, f (off 0 (by decide) k)) + ∑ k, f (off 64 (by decide) k)) + ∑ k, f (off 128 (by decide) k))
    + ∑ k, f (off 192 (by decide) k)) + ∑ k, f (off 256 (by decide) k) := by
  refine (Fin.sum_univ_add (a := 256) (b := 64) f).trans (congrArg₂ (· + ·) ?_ rfl)
  refine (Fin.sum_univ_add (a := 192) (b := 64) _).trans (congrArg₂ (· + ·) ?_ rfl)
  refine (Fin.sum_univ_add (a := 128) (b := 64) _).trans (congrArg₂ (· + ·) ?_ rfl)
  refine (Fin.sum_univ_add (a := 64) (b := 64) _).trans (congrArg₂ (· + ·) ?_ rfl)
  exact Finset.sum_congr rfl fun k _ => congrArg f (Fin.ext (Nat.zero_add _).symm)

/-- The five blocks' parts of a column of the product. -/
def five (x1 x2 x3 x4 x5 : Fin 64 → EReal) (W : S320x64.Idx → EReal) (d : Fin 64) : EReal :=
  ((((∑ k, x1 k * W (ix2 (off 0 (by decide) k) d)) + ∑ k, x2 k * W (ix2 (off 64 (by decide) k) d)) + ∑ k, x3 k * W (ix2 (off 128 (by decide) k) d))
    + ∑ k, x4 k * W (ix2 (off 192 (by decide) k) d)) + ∑ k, x5 k * W (ix2 (off 256 (by decide) k) d)

theorem five_congr {x1 x2 x3 x4 x5 y1 y2 y3 y4 y5 : Fin 64 → EReal} (h1 : ∀ k, x1 k = y1 k) (h2 : ∀ k, x2 k = y2 k) (h3 : ∀ k, x3 k = y3 k) (h4 : ∀ k, x4 k = y4 k)
    (h5 : ∀ k, x5 k = y5 k) (W : S320x64.Idx → EReal) (d : Fin 64) : five x1 x2 x3 x4 x5 W d = five y1 y2 y3 y4 y5 W d := by
  rw [funext h1, funext h2, funext h3, funext h4, funext h5]

theorem cat_apply (X1 X2 X3 X4 X5 : FVec Ideal S320000x64 .f32) (W : FVec Ideal S320x64 .f32) (lb : FVec Ideal S64 .f32) (e : Fin 320000) (d : Fin 64) :
    addf (Host.dotGeneral dot_S320000x320_S320x64_S320000x64_1_0_0_1_n_n none (concatenate S320000x320 1 [⟨S320000x64, X1⟩, ⟨S320000x64, X2⟩, ⟨S320000x64, X3⟩, ⟨S320000x64, X4⟩, ⟨S320000x64, X5⟩]
        concatenates_S320000x64_S320000x64_S320000x64_S320000x64_S320000x64_S320000x320_d1) W)
      (broadcastInDim S320000x64 ![0, 1] bcast_S1x64_S320000x64_0_1 (broadcastInDim S1x64 ![1] bcast_S64_S1x64_1 lb)) (ix2 e d)
      = five (fun k => X1 (ix2 e k)) (fun k => X2 (ix2 e k)) (fun k => X3 (ix2 e k)) (fun k => X4 (ix2 e k)) (fun k => X5 (ix2 e k)) W d + lb (ix1 d) := by
  pointwise
  rw [sum320]
  unfold five
  refine congrArg (· + _) ?_
  refine congrArg₂ (· + ·) (congrArg₂ (· + ·) (congrArg₂ (· + ·) (congrArg₂ (· + ·) ?_ ?_) ?_) ?_) ?_ <;>
    refine Finset.sum_congr rfl fun k _ => congrArg₂ (· * ·) ?_ rfl
  · have := k.isLt
    refine (dif_pos (by simp only [off]; omega)).trans (congrArg X1 (congrArg (ix2 e) (Fin.ext ?_)))
    simp only [off]; omega
  · have := k.isLt
    refine (dif_neg (by simp only [off]; omega)).trans ?_
    refine (dif_pos (by simp only [off]; omega)).trans (congrArg X2 (congrArg (ix2 e) (Fin.ext ?_)))
    simp only [off]; omega
  · have := k.isLt
    refine (dif_neg (by simp only [off]; omega)).trans ?_
    refine (dif_neg (by simp only [off]; omega)).trans ?_
    refine (dif_pos (by simp only [off]; omega)).trans (congrArg X3 (congrArg (ix2 e) (Fin.ext ?_)))
    simp only [off]; omega
  · have := k.isLt
    refine (dif_neg (by simp only [off]; omega)).trans ?_
    refine (dif_neg (by simp only [off]; omega)).trans ?_
    refine (dif_neg (by simp only [off]; omega)).trans ?_
    refine (dif_pos (by simp only [off]; omega)).trans (congrArg X4 (congrArg (ix2 e) (Fin.ext ?_)))
    simp only [off]; omega
  · have := k.isLt
    refine (dif_neg (by simp only [off]; omega)).trans ?_
    refine (dif_neg (by simp only [off]; omega)).trans ?_
    refine (dif_neg (by simp only [off]; omega)).trans ?_
    refine (dif_neg (by simp only [off]; omega)).trans (congrArg X5 (congrArg (ix2 e) (Fin.ext ?_)))
    simp only [off]; omega

/-- The same with the five blocks' rows given. -/
theorem cat_of (X1 X2 X3 X4 X5 : FVec Ideal S320000x64 .f32) (W : FVec Ideal S320x64 .f32) (lb : FVec Ideal S64 .f32) (e : Fin 320000) (d : Fin 64) (y1 y2 y3 y4 y5 : Fin 64 → EReal)
    (h1 : ∀ k, X1 (ix2 e k) = y1 k) (h2 : ∀ k, X2 (ix2 e k) = y2 k) (h3 : ∀ k, X3 (ix2 e k) = y3 k) (h4 : ∀ k, X4 (ix2 e k) = y4 k) (h5 : ∀ k, X5 (ix2 e k) = y5 k) :
    addf (Host.dotGeneral dot_S320000x320_S320x64_S320000x64_1_0_0_1_n_n none (concatenate S320000x320 1 [⟨S320000x64, X1⟩, ⟨S320000x64, X2⟩, ⟨S320000x64, X3⟩, ⟨S320000x64, X4⟩, ⟨S320000x64, X5⟩]
        concatenates_S320000x64_S320000x64_S320000x64_S320000x64_S320000x64_S320000x320_d1) W)
      (broadcastInDim S320000x64 ![0, 1] bcast_S1x64_S320000x64_0_1 (broadcastInDim S1x64 ![1] bcast_S64_S1x64_1 lb)) (ix2 e d)
      = five y1 y2 y3 y4 y5 W d + lb (ix1 d) :=
  (cat_apply X1 X2 X3 X4 X5 W lb e d).trans (congrArg (fun t : EReal => t + lb (ix1 d)) (five_congr h1 h2 h3 h4 h5 W d))

theorem projE_apply (T : FVec Ideal S320000x128 .f32) (P : FVec Ideal S128x64 .f32) (b : FVec Ideal S64 .f32) (e : Fin 320000) (k : Fin 64) :
    addf (Host.dotGeneral dot_S320000x128_S128x64_S320000x64_1_0_0_1_n_n none T P)
      (broadcastInDim S320000x64 ![0, 1] bcast_S1x64_S320000x64_0_1 (broadcastInDim S1x64 ![1] bcast_S64_S1x64_1 b)) (ix2 e k) = proj T P b e k := by
  unfold proj
  pointwise
/-- The same with the row given. -/
theorem projE_of {n : ℕ} (T : FVec Ideal S320000x128 .f32) (P : FVec Ideal S128x64 .f32) (b : FVec Ideal S64 .f32) (e : Fin 320000) (k : Fin 64)
    (Q : (⟨2, ![n, 128]⟩ : Shape).Idx → EReal) (r : Fin n) (h : ∀ j, T (ix2 e j) = Q (ix2 r j)) :
    addf (Host.dotGeneral dot_S320000x128_S128x64_S320000x64_1_0_0_1_n_n none T P)
      (broadcastInDim S320000x64 ![0, 1] bcast_S1x64_S320000x64_0_1 (broadcastInDim S1x64 ![1] bcast_S64_S1x64_1 b)) (ix2 e k) = proj Q P b r k := by
  refine (projE_apply T P b e k).trans ?_
  unfold proj
  exact congrArg (fun t : EReal => t + b (ix1 k)) (Finset.sum_congr rfl fun j _ => congrArg (fun t : EReal => t * P (ix2 j k)) (h j))
theorem projQ_apply (T : FVec Ideal S64x128 .f32) (P : FVec Ideal S128x64 .f32) (b : FVec Ideal S64 .f32) (e : Fin 64) (k : Fin 64) :
    addf (Host.dotGeneral dot_S64x128_S128x64_S64x64_1_0_0_1_n_n none T P)
      (broadcastInDim S64x64 ![0, 1] bcast_S1x64_S64x64_0_1 (broadcastInDim S1x64 ![1] bcast_S64_S1x64_1 b)) (ix2 e k) = proj T P b e k := by
  unfold proj
  pointwise

variable (V : Valuation τ sig (Elt Ideal))

theorem v54_apply (e : Fin 320000) : res_main_v54 V (ix1 e) = lg (fun d => res_main_v34 V (ix2 e d)) (fun d => res_main_v43 V (ix2 e d)) (V (Proc.devRef .tc main_arg17))
    (fun d => V (Proc.devRef .tc main_arg18) (ix1 d)) := by
  unfold res_main_v54 lg leaky
  clean_types
  pointwise

section
variable (h7 : Below 50000 (V (Proc.devRef .tc main_arg7) : S320000.Idx → BitVec 32)) (h8 : Below 50000 (V (Proc.devRef .tc main_arg8) : S320000.Idx → BitVec 32))
  (h6 : Below 64 (V (Proc.devRef .tc main_arg6) : S320000.Idx → BitVec 32))
include h8 in
theorem v17_apply (e : Fin 320000) (j : Fin 128) : res_main_v17 V (ix2 e j) = V (Proc.devRef .tc main_arg1) (ix2 (Take.row 50000 (V (Proc.devRef .tc main_arg8)) e) j) := by
  unfold res_main_v17
  exact Take.rows (by norm_num) gather_S50000x128_S320000x1_S320000x128_1_0_n_n_0_1_1128 rfl rfl rfl rfl rfl 49999#32 (by decide) _ _ h8 _
    (Take.wrap _ _ (fun i => (h8 i).1) _ _ (by decide)) _ _ _ _ _ _ _ _ e j
include h6
theorem v26_apply (e : Fin 320000) (k : Fin 64) : res_main_v26 V (ix2 e k)
    = proj (n := 64) (V (Proc.devRef .tc main_arg3)) (V (Proc.devRef .tc main_arg11)) (V (Proc.devRef .tc main_arg12)) (Take.row 64 (V (Proc.devRef .tc main_arg6)) e) k := by
  unfold res_main_v26
  refine (Take.rows (by norm_num) gather_S64x64_S320000x1_S320000x64_1_0_n_n_0_1_164 rfl rfl rfl rfl rfl 63#32 (by decide) _ _ h6 _
    (Take.wrap _ _ (fun i => (h6 i).1) _ _ (by decide)) _ _ _ _ _ _ _ _ e k).trans ?_
  exact projQ_apply _ _ _ _ k
theorem v27_apply (e : Fin 320000) (k : Fin 64) : res_main_v27 V (ix2 e k)
    = proj (n := 64) (V (Proc.devRef .tc main_arg4)) (V (Proc.devRef .tc main_arg11)) (V (Proc.devRef .tc main_arg12)) (Take.row 64 (V (Proc.devRef .tc main_arg6)) e) k := by
  unfold res_main_v27
  refine (Take.rows (by norm_num) gather_S64x64_S320000x1_S320000x64_1_0_n_n_0_1_164 rfl rfl rfl rfl rfl 63#32 (by decide) _ _ h6 _
    (Take.wrap _ _ (fun i => (h6 i).1) _ _ (by decide)) _ _ _ _ _ _ _ _ e k).trans ?_
  exact projQ_apply _ _ _ _ k
theorem v28_apply (e : Fin 320000) (k : Fin 64) : res_main_v28 V (ix2 e k)
    = proj (n := 64) (V (Proc.devRef .tc main_arg5)) (V (Proc.devRef .tc main_arg11)) (V (Proc.devRef .tc main_arg12)) (Take.row 64 (V (Proc.devRef .tc main_arg6)) e) k := by
  unfold res_main_v28
  refine (Take.rows (by norm_num) gather_S64x64_S320000x1_S320000x64_1_0_n_n_0_1_164 rfl rfl rfl rfl rfl 63#32 (by decide) _ _ h6 _
    (Take.wrap _ _ (fun i => (h6 i).1) _ _ (by decide)) _ _ _ _ _ _ _ _ e k).trans ?_
  exact projQ_apply _ _ _ _ k

/-- A preactivation as the reference computes it. -/
def preR (a1 : S50000x128.Idx → EReal) (a2 : S320000x128.Idx → EReal) (a3 a4 a5 : S64x128.Idx → EReal) (a6 : S320000.Idx → BitVec 32) (P : S128x64.Idx → EReal)
    (b : S64.Idx → EReal) (v : S320000.Idx → BitVec 32) (W : S320x64.Idx → EReal) (lb : S64.Idx → EReal) (e : Fin 320000) (d : Fin 64) : EReal :=
  five (proj a1 P b (Take.row 50000 v e)) (proj a2 P b e) (proj a3 P b (Take.row 64 a6 e)) (proj a4 P b (Take.row 64 a6 e)) (proj a5 P b (Take.row 64 a6 e)) W d + lb (ix1 d)

include h7 in
theorem v34_apply (e : Fin 320000) (d : Fin 64) : res_main_v34 V (ix2 e d)
    = preR (V (Proc.devRef .tc main_arg1)) (V (Proc.devRef .tc main_arg2)) (V (Proc.devRef .tc main_arg3)) (V (Proc.devRef .tc main_arg4)) (V (Proc.devRef .tc main_arg5)) (V (Proc.devRef .tc main_arg6))
      (V (Proc.devRef .tc main_arg11)) (V (Proc.devRef .tc main_arg12)) (V (Proc.devRef .tc main_arg7)) (V (Proc.devRef .tc main_arg13)) (V (Proc.devRef .tc main_arg14)) e d := by
  unfold res_main_v34
  unfold preR
  refine cat_of _ _ _ _ _ _ _ e d _ _ _ _ _ (fun k => ?_) (fun k => ?_) (v26_apply V h6 e) (v27_apply V h6 e) (v28_apply V h6 e)
  · refine projE_of _ _ _ e k _ _ fun j => ?_
    exact Take.rows (by norm_num) gather_S50000x128_S320000x1_S320000x128_1_0_n_n_0_1_1128 rfl rfl rfl rfl rfl 49999#32 (by decide) _ _ h7 _
      (Take.wrap _ _ (fun i => (h7 i).1) _ _ (by decide)) _ _ _ _ _ _ _ _ e j
  · unfold res_main_v15
    exact projE_apply _ _ _ e k
include h8 in
theorem v43_apply (e : Fin 320000) (d : Fin 64) : res_main_v43 V (ix2 e d)
    = preR (V (Proc.devRef .tc main_arg1)) (V (Proc.devRef .tc main_arg2)) (V (Proc.devRef .tc main_arg3)) (V (Proc.devRef .tc main_arg4)) (V (Proc.devRef .tc main_arg5)) (V (Proc.devRef .tc main_arg6))
      (V (Proc.devRef .tc main_arg11)) (V (Proc.devRef .tc main_arg12)) (V (Proc.devRef .tc main_arg8)) (V (Proc.devRef .tc main_arg15)) (V (Proc.devRef .tc main_arg16)) e d := by
  unfold res_main_v43
  unfold preR
  refine cat_of _ _ _ _ _ _ _ e d _ _ _ _ _ (fun k => ?_) (fun k => ?_) (v26_apply V h6 e) (v27_apply V h6 e) (v28_apply V h6 e)
  · exact projE_of _ _ _ e k _ _ (v17_apply V h8 e)
  · unfold res_main_v15
    exact projE_apply _ _ _ e k
end

end Cert.Ref

end
-- ==== Proof.Algebra.lean ====
/- The two ways of writing a preactivation agree: the kernel folds the projection into the weights, the reference projects first. -/
module

public import proofs.«01_k».proof.Proof.KLogits
public import proofs.«01_k».proof.Proof.RefLogits

@[expose] public section

set_option maxRecDepth 16384

noncomputable section

namespace Cert.Alg

open Cert.ReferenceIdeal Cert.ReferenceIdeal.Gen
open Idealize.ShloMosaic Idealize.ShloMosaic.TcCoe
open Cert.Lgt (off proj foldW queryW biasW memW oneh preK)
open Cert.Ref (five preR)
open Cert.Pre_inputs_ok (Below Fin')

/-- A real sum's coercion. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplication by a real distributes over the sum of a real and anything. -/
theorem add_mul_real (x w : ℝ) (b : EReal) : ((x : EReal) + b) * w = x * w + b * w := by
  induction b with
  | coe b => rw [← EReal.coe_add, ← EReal.coe_mul, ← EReal.coe_mul, ← EReal.coe_mul, ← EReal.coe_add, add_mul]
  | top =>
    rcases lt_trichotomy w 0 with h | h | h
    · rw [EReal.coe_add_top, EReal.top_mul_coe_of_neg h, ← EReal.coe_mul, EReal.add_bot]
    · subst h; simp
    · rw [EReal.coe_add_top, EReal.top_mul_coe_of_pos h, ← EReal.coe_mul, EReal.coe_add_top]
  | bot =>
    rcases lt_trichotomy w 0 with h | h | h
    · rw [EReal.add_bot, EReal.bot_mul_coe_of_neg h, ← EReal.coe_mul, EReal.coe_add_top]
    · subst h; simp
    · rw [EReal.add_bot, EReal.bot_mul_coe_of_pos h, ← EReal.coe_mul, EReal.add_bot]

/-- Projecting and then weighting is folding the weights, plus the bias's part. -/
theorem fold {n : Nat} (Q : (⟨2, ![n, 128]⟩ : Shape).Idx → EReal) (P : S128x64.Idx → EReal) (b : S64.Idx → EReal) (w : Fin 64 → EReal)
    (hQ : ∀ i, ∃ r : ℝ, Q i = (r : EReal)) (hP : ∀ i, ∃ r : ℝ, P i = (r : EReal)) (hw : ∀ k, ∃ r : ℝ, w k = (r : EReal)) (r : Fin n) :
    ∑ k, proj Q P b r k * w k = (∑ j : Fin 128, Q (ix2 r j) * ∑ k, P (ix2 j k) * w k) + ∑ k, b (ix1 k) * w k := by
  choose q hq using hQ
  choose p hp using hP
  choose u hu using hw
  simp only [proj, hq, hp, hu, ← EReal.coe_mul, ← coe_sum, add_mul_real]
  rw [Finset.sum_add_distrib]
  congr 1
  rw [← coe_sum]
  congr 1
  simp only [Finset.sum_mul, Finset.mul_sum]
  rw [Finset.sum_comm]
  exact Finset.sum_congr rfl fun _ _ => Finset.sum_congr rfl fun _ _ => by ring

theorem oneh_self {n : Nat} (w : BitVec 32) (q : Fin n) (h : w = BitVec.ofNat 32 q.val) : Scalar.sitofp (F := Ideal) .f32 ((IntOp.cmpi .eq w (BitVec.ofNat 32 q.val)).zeroExtend 32) = (1 : EReal) := by
  have : IntOp.cmpi .eq w (BitVec.ofNat 32 q.val) = 1#1 := by rw [h]; simp [IntOp.cmpi]
  rw [this]
  show ((((1#1 : BitVec 1).zeroExtend 32).toInt : ℝ) : EReal) = 1
  have h1 : ((1#1 : BitVec 1).zeroExtend 32).toInt = 1 := by decide
  rw [h1]; norm_num
theorem oneh_ne {n : Nat} (w : BitVec 32) (q : Fin n) (h : w ≠ BitVec.ofNat 32 q.val) : Scalar.sitofp (F := Ideal) .f32 ((IntOp.cmpi .eq w (BitVec.ofNat 32 q.val)).zeroExtend 32) = (0 : EReal) := by
  have : IntOp.cmpi .eq w (BitVec.ofNat 32 q.val) = 0#1 := by
    show BitVec.ofBool (w == BitVec.ofNat 32 q.val) = 0#1
    rw [beq_eq_false_iff_ne.mpr h]; rfl
  rw [this]
  show ((((0#1 : BitVec 1).zeroExtend 32).toInt : ℝ) : EReal) = 0
  have h1 : ((0#1 : BitVec 1).zeroExtend 32).toInt = 0 := by decide
  rw [h1]; norm_num

/-- The one-hot row picks one query. -/
theorem pick (a6 : S320000.Idx → BitVec 32) (h6 : Below 64 a6) (e : Fin 320000) (f : Fin 64 → EReal) : ∑ q, oneh (a6 (ix1 e)) q * f q = f (Take.row 64 a6 e) := by
  rw [Finset.sum_eq_single (Take.row 64 a6 e)]
  · unfold oneh
    rw [oneh_self _ _ (Take.word_eq h6 e), one_mul]
  · intro q _ hq
    unfold oneh
    rw [oneh_ne, zero_mul]
    rw [Take.word_eq h6 e]
    intro h
    apply hq
    have := congrArg BitVec.toNat h
    simp only [BitVec.toNat_ofNat] at this
    have h1 := q.isLt
    have h2 := (Take.row 64 a6 e).isLt
    exact Fin.ext (by omega)
  · exact fun h => absurd (Finset.mem_univ _) h

theorem preK_eq (a1 : S50000x128.Idx → EReal) (a2 : S320000x128.Idx → EReal) (a3 a4 a5 : S64x128.Idx → EReal) (a6 : S320000.Idx → BitVec 32) (P : S128x64.Idx → EReal)
    (b : S64.Idx → EReal) (v : S320000.Idx → BitVec 32) (W : S320x64.Idx → EReal) (lb : S64.Idx → EReal) (h6 : Below 64 a6)
    (f1 : ∀ i, ∃ r : ℝ, a1 i = (r : EReal)) (f2 : ∀ i, ∃ r : ℝ, a2 i = (r : EReal)) (fP : ∀ i, ∃ r : ℝ, P i = (r : EReal)) (fW : ∀ i, ∃ r : ℝ, W i = (r : EReal)) (e : Fin 320000) (d : Fin 64) :
    preK a1 a2 a3 a4 a5 a6 P b v W lb e d = preR a1 a2 a3 a4 a5 a6 P b v W lb e d := by
  unfold preK preR five
  rw [pick a6 h6 e, fold a1 P b (fun k => W (ix2 (off 0 (by decide) k) d)) f1 fP (fun k => fW _), fold a2 P b (fun k => W (ix2 (off 64 (by decide) k) d)) f2 fP (fun k => fW _)]
  unfold memW queryW biasW foldW
  ac_rfl

end Cert.Alg

end
-- ==== Proof.Segments.lean ====
/- Sorted segments of a long row, and what one block of the forward and of the backward call computes about them from what the
   blocks before it carried on. -/
module

public import proofs.«01_k».proof.Proof.Lanes

@[expose] public section

noncomputable section

namespace Cert.Seg

open Cert.KernelIdeal Cert.KernelIdeal.Gen Cert.KernelIdeal.Run Cert.Scan
open Idealize.ShloMosaic

/-- Segment ids that are not negative and do not fall. -/
structure Sorted (S : ℕ → BitVec 32) : Prop where
  nn : ∀ e, e < 320000 → 0 ≤ (S e).toInt
  mono : ∀ i j, i ≤ j → j < 320000 → (S i).toInt ≤ (S j).toInt

/-- The first entry of an entry's segment. -/
def fs (S : ℕ → BitVec 32) (e : ℕ) : ℕ := Nat.find (p := fun i => S i = S e) ⟨e, rfl⟩
/-- The last entry of an entry's segment. -/
def en (S : ℕ → BitVec 32) (e : ℕ) : ℕ := Nat.findGreatest (fun i => S i = S e) 319999

variable {S : ℕ → BitVec 32}

theorem fs_seg (e : ℕ) : S (fs S e) = S e := Nat.find_spec (p := fun i => S i = S e) ⟨e, rfl⟩
theorem fs_le {e i : ℕ} (h : S i = S e) : fs S e ≤ i := Nat.find_min' (p := fun i => S i = S e) ⟨e, rfl⟩ h
theorem fs_self (e : ℕ) : fs S e ≤ e := fs_le rfl
theorem fs_congr {e i : ℕ} (h : S i = S e) : fs S i = fs S e := by unfold fs; simp only [h]
theorem en_seg {e : ℕ} (he : e < 320000) : S (en S e) = S e :=
  Nat.findGreatest_spec (P := fun i => S i = S e) (m := e) (by omega) rfl
theorem le_en {e i : ℕ} (hi : i < 320000) (h : S i = S e) : i ≤ en S e :=
  Nat.le_findGreatest (P := fun i => S i = S e) (by omega) h
theorem en_lt (e : ℕ) : en S e < 320000 := Nat.lt_succ_of_le (Nat.findGreatest_le (P := fun i => S i = S e) 319999)
theorem en_congr {e i : ℕ} (h : S i = S e) : en S i = en S e := by unfold en; simp only [h]

/-- What lies between two entries of a segment belongs to it. -/
theorem Sorted.mid (hS : Sorted S) {i k e : ℕ} (h : S i = S e) (h1 : i ≤ k) (h2 : k ≤ e) (he : e < 320000) : S k = S e :=
  BitVec.eq_of_toInt_eq (le_antisymm (hS.mono k e h2 he) (h ▸ hS.mono i k h1 (by omega)))

theorem Sorted.ne (hS : Sorted S) {e : ℕ} (he : e < 320000) : S e ≠ 4294967295#32 := fun h => by
  have := hS.nn e he
  rw [h] at this
  exact absurd this (by decide)

/-- A segment is the stretch from its first entry to its last. -/
theorem Sorted.iff (hS : Sorted S) {e i : ℕ} (he : e < 320000) (hi : i < 320000) : S i = S e ↔ fs S e ≤ i ∧ i ≤ en S e :=
  ⟨fun h => ⟨fs_le h, le_en hi h⟩, fun ⟨h1, h2⟩ => by
    have h3 := hS.mid ((fs_seg e).trans (en_seg he).symm) h1 h2 (en_lt e)
    exact h3.trans (en_seg he)⟩

theorem ofBool_ne (a b : BitVec 32) : on ((IntOp.cmpi .ne a b).setWidth 32) ↔ a ≠ b := by
  unfold IntOp.cmpi
  by_cases h : a = b
  · subst h; simp only [bne_self_eq_false, ne_eq, not_true_eq_false, iff_false]; decide
  · rw [show (a != b) = true from by simpa using h]
    simp only [ne_eq, h, not_false_eq_true, iff_true]; decide

theorem on_newR (s : Row.Idx → BitVec 32) (hs : row s 0 ≠ 4294967295#32) {j : ℕ} (hj : j < 4000) :
    on (row (newR s) j) ↔ j = 0 ∨ row s j ≠ row s (j - 1) := by
  have h : row (newR s) j = (IntOp.cmpi .ne (row s j) (row (shR 0 4294967295#32 s) j)).setWidth 32 := rfl
  rw [h, ofBool_ne, row_shR _ _ _ j hj]
  by_cases h0 : j = 0
  · subst h0; simpa using hs
  · rw [if_neg (by simp; omega)]; simp [h0]

theorem on_newL (s : Row.Idx → BitVec 32) (hs : row s 3999 ≠ 4294967295#32) {j : ℕ} (hj : j < 4000) :
    on (row (newL s) j) ↔ j = 3999 ∨ row s j ≠ row s (j + 1) := by
  have h : row (newL s) j = (IntOp.cmpi .ne (row s j) (row (shL 0 4294967295#32 s) j)).setWidth 32 := rfl
  rw [h, ofBool_ne, row_shL _ _ _ j hj]
  by_cases h0 : j = 3999
  · subst h0; simpa using hs
  · rw [if_pos (by simp; omega)]; simp [h0]

/-- The starts within a block. -/
theorem starts (hS : Sorted S) {b : ℕ} (hb : b + 4000 ≤ 320000) (s : Row.Idx → BitVec 32) (hs : ∀ j, j < 4000 → row s j = S (b + j)) :
    Starts (newR s) (fun j => max (fs S (b + j)) b - b) := by
  have h0 : row s 0 ≠ 4294967295#32 := by rw [hs 0 (by omega)]; exact hS.ne (by omega)
  refine ⟨fun j hj => ?_, fun j hj => ?_, fun j hj i h1 h2 h3 => ?_⟩
  · have := fs_self (S := S) (b + j); omega
  · have hl := fs_self (S := S) (b + j)
    rw [on_newR s h0 (by omega)]
    by_cases hc : fs S (b + j) ≤ b
    · left; omega
    · right
      rw [hs _ (by omega), hs _ (by omega), show b + (max (fs S (b + j)) b - b) = fs S (b + j) by omega, fs_seg (S := S) (b + j)]
      intro h
      have := fs_le h.symm
      omega
  · have hl := fs_self (S := S) (b + j)
    rw [on_newR s h0 (by omega)] at h3
    rcases h3 with h3 | h3
    · omega
    · apply h3
      rw [hs _ (by omega), hs _ (by omega)]
      have e1 := hS.mid (k := b + i) (fs_seg (b + j)) (by omega) (by omega) (by omega)
      have e2 := hS.mid (k := b + (i - 1)) (fs_seg (b + j)) (by omega) (by omega) (by omega)
      rw [e1, e2]

/-- The ends within a block. -/
theorem ends (hS : Sorted S) {b : ℕ} (hb : b + 4000 ≤ 320000) (s : Row.Idx → BitVec 32) (hs : ∀ j, j < 4000 → row s j = S (b + j)) :
    Ends (newL s) (fun j => min (en S (b + j)) (b + 3999) - b) := by
  have h0 : row s 3999 ≠ 4294967295#32 := by rw [hs 3999 (by omega)]; exact hS.ne (by omega)
  have hl : ∀ j, j < 4000 → b + j ≤ en S (b + j) := fun j hj => le_en (by omega) rfl
  refine ⟨fun j hj => ?_, fun j hj => ?_, fun j hj => ?_, fun j hj i h1 h2 h3 => ?_⟩
  · have := hl j hj; omega
  · omega
  · have := hl j hj
    rw [on_newL s h0 (by omega)]
    by_cases hc : b + 3999 ≤ en S (b + j)
    · left; omega
    · right
      rw [hs _ (by omega), hs _ (by omega), show b + (min (en S (b + j)) (b + 3999) - b) = en S (b + j) by omega, en_seg (S := S) (e := b + j) (by omega)]
      intro h
      have := le_en (by omega) h.symm
      omega
  · have := hl j hj
    have he := en_lt (S := S) (b + j)
    rw [on_newL s h0 (by omega)] at h3
    rcases h3 with h3 | h3
    · omega
    · apply h3
      rw [hs _ (by omega), hs _ (by omega)]
      have e1 := (hS.iff (e := b + j) (i := b + i) (by omega) (by omega)).2 ⟨(fs_self _).trans (by omega), by omega⟩
      have e2 := (hS.iff (e := b + j) (i := b + (i + 1)) (by omega) (by omega)).2 ⟨(fs_self _).trans (by omega), by omega⟩
      rw [e1, e2]

/-- The shifted exponential of an entry. -/
def X (L : ℕ → EReal) (S : ℕ → BitVec 32) (e : ℕ) : EReal := Ideal.exp (L e - L (fs S e))
/-- The sum of them over an entry's segment up to the entry. -/
def F (L : ℕ → EReal) (S : ℕ → BitVec 32) (e : ℕ) : EReal := ∑ i ∈ Finset.Icc (fs S e) e, X L S i

/-- What the forward call has carried to the block that begins at entry `b`. -/
structure FwdInv (L : ℕ → EReal) (S : ℕ → BitVec 32) (b : ℕ) (s : FwdSt Ideal) : Prop where
  init : b = 0 → s.1 = 4294967295#32
  seg : 0 < b → s.1 = S (b - 1)
  first : 0 < b → s.2.1 = L (fs S (b - 1))
  sum : 0 < b → s.2.2 = F L S (b - 1)

theorem eq_cmp (a b : BitVec 32) : IntOp.cmpi .eq a b = 1 ↔ a = b := by
  unfold IntOp.cmpi
  by_cases h : a = b
  · subst h; simp
  · have hb : (a == b) = false := by simpa using h
    simp only [hb, h, iff_false]; decide

section Fwd
variable {L : ℕ → EReal} {b : ℕ} {x0 : Vec Ideal S1x1x4000 .f32} {x1 : Vec Ideal S1x1x4000 .i32} {s : FwdSt Ideal}

/-- The mask marks the lanes whose segment began before the block. -/
theorem mask_iff (hS : Sorted S) (hb : b + 4000 ≤ 320000) (h1 : ∀ j, j < 4000 → row3 x1 j = S (b + j)) (hs : FwdInv L S b s) {j : ℕ} (hj : j < 4000) :
    (row (fwdMask (F := Ideal) x1 s) j = 1 ↔ fs S (b + j) < b) ∧ (fs S (b + j) < b → S (b - 1) = S (b + j)) := by
  have hm : row (fwdMask (F := Ideal) x1 s) j = IntOp.cmpi .eq (row (k2_pay3 (F := Ideal) x1) j) s.1 := rfl
  rw [hm, eq_cmp, pay3_row, h1 j hj]
  have hk : fs S (b + j) < b → S (b - 1) = S (b + j) := fun h => hS.mid (fs_seg (b + j)) (by omega) (by omega) (by omega)
  refine ⟨⟨fun h => ?_, fun h => ?_⟩, hk⟩
  · rcases Nat.eq_zero_or_pos b with h0 | h0
    · rw [hs.init h0] at h; exact absurd h (hS.ne (by omega))
    · rw [hs.seg h0] at h
      have := fs_le h.symm; omega
  · rw [hs.seg (by omega)]; exact (hk h).symm

theorem fwdC_row (hS : Sorted S) (hb : b + 4000 ≤ 320000) (h0 : ∀ j, j < 4000 → row3 x0 j = L (b + j))
    (h1 : ∀ j, j < 4000 → row3 x1 j = S (b + j)) (hs : FwdInv L S b s) {j : ℕ} (hj : j < 4000) :
    row (fwdC x0 x1 s) j = L (fs S (b + j)) := by
  have hl := fs_self (S := S) (b + j)
  have hm : row (fwdC x0 x1 s) j = if row (fwdMask (F := Ideal) x1 s) j = 1 then s.2.1 else row (fwdHead x0 x1) j := rfl
  have hst := starts hS hb (k2_pay3 (F := Ideal) x1) (fun j hj => (pay3_row x1 j).trans (h1 j hj))
  obtain ⟨hk, hk'⟩ := mask_iff hS hb h1 hs hj
  rw [hm]
  by_cases hc : fs S (b + j) < b
  · rw [if_pos (hk.2 hc), hs.first (by omega), fs_congr (hk' hc)]
  · rw [if_neg (fun h => hc (hk.1 h)), fwdHead_eq, fillR_start _ _ hst j hj, pay2_row, h0 _ (by omega)]
    congr 1; omega

theorem fwdE_row (hS : Sorted S) (hb : b + 4000 ≤ 320000) (h0 : ∀ j, j < 4000 → row3 x0 j = L (b + j))
    (h1 : ∀ j, j < 4000 → row3 x1 j = S (b + j)) (hs : FwdInv L S b s) {j : ℕ} (hj : j < 4000) :
    row (fwdE x0 x1 s) j = X L S (b + j) := by
  have hm : row (fwdE x0 x1 s) j = Ideal.exp (row (k2_pay2 x0) j - row (fwdC x0 x1 s) j) := rfl
  rw [hm, pay2_row, h0 j hj, fwdC_row hS hb h0 h1 hs hj]; rfl

theorem fwdF_row (hS : Sorted S) (hb : b + 4000 ≤ 320000) (h0 : ∀ j, j < 4000 → row3 x0 j = L (b + j))
    (h1 : ∀ j, j < 4000 → row3 x1 j = S (b + j)) (hs : FwdInv L S b s) {j : ℕ} (hj : j < 4000) :
    row (fwdF x0 x1 s) j = F L S (b + j) := by
  have hl := fs_self (S := S) (b + j)
  have hst := starts hS hb (k2_pay3 (F := Ideal) x1) (fun j hj => (pay3_row x1 j).trans (h1 j hj))
  obtain ⟨hk, hk'⟩ := mask_iff hS hb h1 hs hj
  have hm : row (fwdF x0 x1 s) j = row (sumR (newR (k2_pay3 (F := Ideal) x1)) (fwdE x0 x1 s) 12) j
      + if row (fwdMask (F := Ideal) x1 s) j = 1 then s.2.2 else Ideal.ofBits .f32 0x00000000#32 := by rw [fwdF_eq]; rfl
  have hsum : ∑ i ∈ Finset.Icc (max (fs S (b + j)) b - b) j, row (fwdE x0 x1 s) i
      = ∑ i ∈ Finset.Icc (max (fs S (b + j)) b) (b + j), X L S i := by
    rw [Finset.sum_congr rfl (fun i hi => fwdE_row hS hb h0 h1 hs (j := i) (by simp only [Finset.mem_Icc] at hi; omega))]
    refine Finset.sum_bij (fun i _ => b + i) (fun i hi => ?_) (fun i _ k _ h => by omega) (fun i hi => ?_) (fun _ _ => rfl)
    · simp only [Finset.mem_Icc] at hi ⊢; omega
    · simp only [Finset.mem_Icc] at hi
      exact ⟨i - b, by simp only [Finset.mem_Icc]; omega, by omega⟩
  rw [hm, sumR_start _ _ hst j hj, hsum]
  unfold F
  by_cases hc : fs S (b + j) < b
  · rw [if_pos (hk.2 hc), hs.sum (by omega)]
    unfold F
    rw [fs_congr (hk' hc), add_comm, ← Finset.sum_union]
    · congr 1; ext i; simp only [Finset.mem_union, Finset.mem_Icc]; omega
    · rw [Finset.disjoint_left]; intro i; simp only [Finset.mem_Icc]; omega
  · rw [if_neg (fun h => hc (hk.1 h)), Ideal.ofBits_zero_f32, add_zero, max_eq_left (by omega)]

/-- The invariant at the next block. -/
theorem fwdNext_inv (hS : Sorted S) (hb : b + 4000 ≤ 320000) (h0 : ∀ j, j < 4000 → row3 x0 j = L (b + j))
    (h1 : ∀ j, j < 4000 → row3 x1 j = S (b + j)) (hs : FwdInv L S b s) : FwdInv L S (b + 4000) (fwdNext x0 x1 s) := by
  rw [fwdNext_eq]
  have e : b + 4000 - 1 = b + 3999 := by omega
  refine ⟨fun h => by omega, fun _ => ?_, fun _ => ?_, fun _ => ?_⟩ <;> rw [e]
  · exact h1 3999 (by omega)
  · exact fwdC_row hS hb h0 h1 hs (by omega)
  · exact fwdF_row hS hb h0 h1 hs (by omega)

end Fwd

/-- What the backward call has carried to the block that ends before entry `b`. -/
structure BwdInv (L : ℕ → EReal) (S : ℕ → BitVec 32) (b : ℕ) (s : BwdSt Ideal) : Prop where
  init : b = 320000 → s.1 = 4294967295#32
  seg : b < 320000 → s.1 = S b
  tot : b < 320000 → s.2 = F L S (en S b)

section Bwd
variable {L : ℕ → EReal} {b : ℕ} {x1 : Vec Ideal S1x1x4000 .f32} {x2 : Vec Ideal S1x1x4000 .i32} {s : BwdSt Ideal}

theorem bwdTot_row (hS : Sorted S) (hb : b + 4000 ≤ 320000) (h1 : ∀ j, j < 4000 → row3 x1 j = F L S (b + j))
    (h2 : ∀ j, j < 4000 → row3 x2 j = S (b + j)) (hs : BwdInv L S (b + 4000) s) {j : ℕ} (hj : j < 4000) :
    row (bwdTot x1 x2 s) j = F L S (en S (b + j)) := by
  have hl : b + j ≤ en S (b + j) := le_en (by omega) rfl
  have he := en_lt (S := S) (b + j)
  have hen := ends hS hb (k3_pay2 (F := Ideal) x2) (fun j hj => (pay3_row x2 j).trans (h2 j hj))
  have hm : row (bwdTot x1 x2 s) j = if IntOp.cmpi .eq (row (k3_pay2 (F := Ideal) x2) j) s.1 = 1 then s.2
      else row (fillL (newL (k3_pay2 (F := Ideal) x2)) (k3_pay1 x1) 12) j := by rw [bwdTot_eq]; rfl
  have hx2 : row (k3_pay2 (F := Ideal) x2) j = S (b + j) := (pay3_row x2 j).trans (h2 j hj)
  have hi : IntOp.cmpi .eq (row (k3_pay2 (F := Ideal) x2) j) s.1 = 1 ↔ S (b + j) = s.1 := by rw [eq_cmp, hx2]
  rw [hm]
  by_cases hc : b + 4000 ≤ en S (b + j)
  · have hk : S (b + 4000) = S (b + j) :=
      (hS.iff (e := b + j) (by omega) (by omega)).2 ⟨(fs_self _).trans (by omega), hc⟩
    rw [if_pos (hi.2 (by rw [hs.seg (by omega)]; exact hk.symm)), hs.tot (by omega), en_congr hk]
  · rw [if_neg, fillL_end _ _ hen j hj]
    · have : row (k3_pay1 x1) (min (en S (b + j)) (b + 3999) - b) = row3 x1 (min (en S (b + j)) (b + 3999) - b) := pay2_row x1 _
      rw [this, h1 _ (by omega)]
      congr 1; omega
    · intro h
      rw [hi] at h
      rcases Nat.lt_or_ge (b + 4000) 320000 with hlt | hge
      · rw [hs.seg hlt] at h
        have := le_en hlt h.symm; omega
      · rw [hs.init (by omega)] at h; exact hS.ne (by omega) h

/-- The invariant at the next (earlier) block. -/
theorem bwdNext_inv (hS : Sorted S) (hb : b + 4000 ≤ 320000) (h1 : ∀ j, j < 4000 → row3 x1 j = F L S (b + j))
    (h2 : ∀ j, j < 4000 → row3 x2 j = S (b + j)) (hs : BwdInv L S (b + 4000) s) : BwdInv L S b (bwdNext x1 x2 s) := by
  rw [bwdNext_eq]
  refine ⟨fun h => by omega, fun _ => h2 0 (by omega), fun _ => bwdTot_row hS hb h1 h2 hs (j := 0) (by omega)⟩

end Bwd

/-- A segment's total: the running sum at its last entry. -/
theorem F_end (L : ℕ → EReal) (hS : Sorted S) {e : ℕ} (he : e < 320000) :
    F L S (en S e) = ∑ i ∈ (Finset.range 320000).filter (fun i => S i = S e), X L S i := by
  suffices hset : Finset.Icc (fs S (en S e)) (en S e) = (Finset.range 320000).filter (fun i => S i = S e) from by unfold F; rw [hset]
  rw [fs_congr (en_seg he)]
  ext i
  simp only [Finset.mem_Icc, Finset.mem_filter, Finset.mem_range]
  have := en_lt (S := S) e
  constructor
  · rintro ⟨h1, h2⟩; exact ⟨by omega, (hS.iff he (by omega)).2 ⟨h1, h2⟩⟩
  · rintro ⟨h1, h2⟩; exact (hS.iff he h1).1 h2

end Cert.Seg

end
-- ==== Proof.FwdArr.lean ====
/- What the forward call leaves in its two result arrays: at every entry the exponential shifted by the first logit of the
   entry's segment, and the running sum of these over the segment. -/
module

public import proofs.«01_k».proof.Proof.Segments
public import proofs.«01_k».proof.Proof.FwdCall
public import Idealize.ShloMosaic.Lib.Pipeline.ValueKit

@[expose] public section

set_option maxRecDepth 16384

noncomputable section

namespace Cert.Seg

open Cert.KernelIdeal Cert.KernelIdeal.Gen Cert.KernelIdeal.Run Cert.Scan
open Idealize.ShloMosaic Idealize.ShloMosaic.TcCoe Idealize.ShloMosaic.Tactic
open Idealize.SL Idealize.SL.RA

/-- Entry `e` of an array of eighty rows of 4000. -/
def flat3 {α : Type} (x : S80x1x4000.Idx → α) (e : ℕ) : α := x (ix3 (Fin.ofNat 80 (e / 4000)) 0 (Fin.ofNat 4000 (e % 4000)))

theorem flat3_at {α : Type} (x : S80x1x4000.Idx → α) (i : S80x1x4000.Idx) (e : ℕ) (h : e = 4000 * (i 0).val + (i 2).val) : flat3 x e = x i := by
  subst h
  unfold flat3
  congr 1
  funext a
  have h0 : (i 0).val < 80 := (i 0).isLt
  have h2 : (i 2).val < 4000 := (i 2).isLt
  have h1 : (i 1).val < 1 := (i 1).isLt
  fin_cases a
  · refine Fin.ext (?_ : (4000 * (i 0).val + (i 2).val) / 4000 % 80 = (i 0).val); omega
  · refine Fin.ext (?_ : 0 = (i 1).val); omega
  · refine Fin.ext (?_ : (4000 * (i 0).val + (i 2).val) % 4000 % 4000 = (i 2).val); omega

theorem row3_at {α : Type} (x : S1x1x4000.Idx → α) (y : S1x1x4000.Idx) : row3 x (y 2).val = x y := by
  unfold row3
  congr 1
  funext a
  have h2 : (y 2).val < 4000 := (y 2).isLt
  have h1 : (y 1).val < 1 := (y 1).isLt
  have h0 : (y 0).val < 1 := (y 0).isLt
  fin_cases a
  · refine Fin.ext (?_ : 0 = (y 0).val); omega
  · refine Fin.ext (?_ : 0 = (y 1).val); omega
  · refine Fin.ext (?_ : (y 2).val % 4000 = (y 2).val); omega

variable (V : (c : Dev nD) → (b : Ref sig .tc) → Buf (Elt Ideal) ((c : Thread nD τ).loc b))

theorem N2_eq : cfg2.N = 80 := N_2
theorem e2_0 : ∀ t : Fin cfg2.N, win2_0.index t = ![t.val, 0, 0] := (by decide +kernel : ∀ t : Fin grid2.N, _)
theorem e2_1 : ∀ t : Fin cfg2.N, win2_1.index t = ![t.val, 0, 0] := (by decide +kernel : ∀ t : Fin grid2.N, _)
theorem e2_2 : ∀ t : Fin cfg2.N, win2_2.index t = ![t.val, 0, 0] := (by decide +kernel : ∀ t : Fin grid2.N, _)
theorem e2_3 : ∀ t : Fin cfg2.N, win2_3.index t = ![t.val, 0, 0] := (by decide +kernel : ∀ t : Fin grid2.N, _)

theorem blk2_0 (c : Dev nD) (t : Fin cfg2.N) (j : ℕ) (hj : j < 4000) : row3 (iblk2 V c 0 t) j = flat3 (V c main_v53) (4000 * t.val + j) := by
  unfold row3
  blk_simp [iblk2]
  refine (flat3_at _ _ _ ?_).symm
  blk_simp [e2_0]
  simp [ix3]
  omega
theorem blk2_1 (c : Dev nD) (t : Fin cfg2.N) (j : ℕ) (hj : j < 4000) : row3 (iblk2 V c 1 t) j = flat3 (V c main_v54) (4000 * t.val + j) := by
  unfold row3
  blk_simp [iblk2]
  refine (flat3_at _ _ _ ?_).symm
  blk_simp [e2_1]
  simp [ix3]
  omega

theorem fwd_inv (c : Dev nD) (hS : Sorted (flat3 (V c main_v54))) : ∀ (n : ℕ) (h : n ≤ cfg2.N),
    FwdInv (flat3 (V c main_v53)) (flat3 (V c main_v54)) (4000 * n) (fwdSt V c n h)
  | 0, _ => ⟨fun _ => rfl, fun h => absurd h (by decide), fun h => absurd h (by decide), fun h => absurd h (by decide)⟩
  | n + 1, h => by
    have h' : n < 80 := N2_eq ▸ h
    exact fwdNext_inv (b := 4000 * n) hS (by omega) (blk2_0 V c ⟨n, h⟩) (blk2_1 V c ⟨n, h⟩) (fwd_inv c hS n (Nat.le_of_lt h))

theorem outE_row3 (x0 : Vec Ideal S1x1x4000 .f32) (x1 : Vec Ideal S1x1x4000 .i32) (s : FwdSt Ideal) (j : ℕ) :
    row3 (fwdOutE x0 x1 s) j = row (fwdE x0 x1 s) j := row3_cast (fwdE x0 x1 s) shapeCasts_S1x4000_S1x1x4000 j
theorem outF_row3 (x0 : Vec Ideal S1x1x4000 .f32) (x1 : Vec Ideal S1x1x4000 .i32) (s : FwdSt Ideal) (j : ℕ) :
    row3 (fwdOutF x0 x1 s) j = row (fwdF x0 x1 s) j := row3_cast (fwdF x0 x1 s) shapeCasts_S1x4000_S1x1x4000 j

/-- The exponentials. -/
theorem fwd_E (c : Dev nD) (hS : Sorted (flat3 (V c main_v54))) : (dat2 V c).arrAt 2 cfg2.N
    = fun i : S80x1x4000.Idx => X (flat3 (V c main_v53)) (flat3 (V c main_v54)) (4000 * (i 0).val + (i 2).val) := by
  refine (dat2 V c).arrAt_eq_of_covers 2 _ (by decide +kernel) fun t hf y => ?_
  blk_simp
  rw [after2_2]
  refine (row3_at (fwdOutE (iblk2 V c 0 t) (iblk2 V c 1 t) (fwdSt V c t.val (Nat.le_of_lt t.isLt))) y).symm.trans ?_
  rw [outE_row3, fwdE_row (b := 4000 * t.val) hS (by have h : t.val < 80 := lt_of_lt_of_eq t.isLt N2_eq; omega) (blk2_0 V c t) (blk2_1 V c t) (fwd_inv V c hS _ _)]
  · congr 1
    rw [e2_2]; simp
  · exact (y 2).isLt

/-- The running sums. -/
theorem fwd_F (c : Dev nD) (hS : Sorted (flat3 (V c main_v54))) : (dat2 V c).arrAt 3 cfg2.N
    = fun i : S80x1x4000.Idx => F (flat3 (V c main_v53)) (flat3 (V c main_v54)) (4000 * (i 0).val + (i 2).val) := by
  refine (dat2 V c).arrAt_eq_of_covers 3 _ (by decide +kernel) fun t hf y => ?_
  blk_simp
  rw [after2_3]
  refine (row3_at (fwdOutF (iblk2 V c 0 t) (iblk2 V c 1 t) (fwdSt V c t.val (Nat.le_of_lt t.isLt))) y).symm.trans ?_
  rw [outF_row3, fwdF_row (b := 4000 * t.val) hS (by have h : t.val < 80 := lt_of_lt_of_eq t.isLt N2_eq; omega) (blk2_0 V c t) (blk2_1 V c t) (fwd_inv V c hS _ _)]
  · congr 1
    rw [e2_3]; simp
  · exact (y 2).isLt

end Cert.Seg

end
-- ==== Proof.BwdArr.lean ====
/- What the backward call leaves in its two result arrays: at every entry the exponential over its segment's total, and this
   times the entry's node attention. -/
module

public import proofs.«01_k».proof.Proof.FwdArr
public import proofs.«01_k».proof.Proof.BwdCall

@[expose] public section

set_option maxRecDepth 16384

noncomputable section

namespace Cert.Seg

open Cert.KernelIdeal Cert.KernelIdeal.Gen Cert.KernelIdeal.Run Cert.Scan
open Idealize.ShloMosaic Idealize.ShloMosaic.TcCoe Idealize.ShloMosaic.Tactic
open Idealize.SL Idealize.SL.RA

variable (V : (c : Dev nD) → (b : Ref sig .tc) → Buf (Elt Ideal) ((c : Thread nD τ).loc b))

theorem N3_eq : cfg3.N = 80 := N_3
theorem e3_0 : ∀ t : Fin cfg3.N, win3_0.index t = ![79 - t.val, 0, 0] := (by decide +kernel : ∀ t : Fin grid3.N, _)
theorem e3_1 : ∀ t : Fin cfg3.N, win3_1.index t = ![79 - t.val, 0, 0] := (by decide +kernel : ∀ t : Fin grid3.N, _)
theorem e3_2 : ∀ t : Fin cfg3.N, win3_2.index t = ![79 - t.val, 0, 0] := (by decide +kernel : ∀ t : Fin grid3.N, _)
theorem e3_3 : ∀ t : Fin cfg3.N, win3_3.index t = ![79 - t.val, 0, 0] := (by decide +kernel : ∀ t : Fin grid3.N, _)
theorem e3_4 : ∀ t : Fin cfg3.N, win3_4.index t = ![79 - t.val, 0, 0] := (by decide +kernel : ∀ t : Fin grid3.N, _)
theorem e3_5 : ∀ t : Fin cfg3.N, win3_5.index t = ![79 - t.val, 0, 0] := (by decide +kernel : ∀ t : Fin grid3.N, _)

theorem blk3_0 (c : Dev nD) (t : Fin cfg3.N) (j : ℕ) (hj : j < 4000) : row3 (iblk3 V c 0 t) j = flat3 (V c main_v56_0) (4000 * (79 - t.val) + j) := by
  unfold row3
  blk_simp [iblk3]
  refine (flat3_at _ _ _ ?_).symm
  blk_simp [e3_0]
  simp [ix3]
  omega
theorem blk3_1 (c : Dev nD) (t : Fin cfg3.N) (j : ℕ) (hj : j < 4000) : row3 (iblk3 V c 1 t) j = flat3 (V c main_v56_1) (4000 * (79 - t.val) + j) := by
  unfold row3
  blk_simp [iblk3]
  refine (flat3_at _ _ _ ?_).symm
  blk_simp [e3_1]
  simp [ix3]
  omega
theorem blk3_2 (c : Dev nD) (t : Fin cfg3.N) (j : ℕ) (hj : j < 4000) : row3 (iblk3 V c 2 t) j = flat3 (V c main_v54) (4000 * (79 - t.val) + j) := by
  unfold row3
  blk_simp [iblk3]
  refine (flat3_at _ _ _ ?_).symm
  blk_simp [e3_2]
  simp [ix3]
  omega
theorem blk3_3 (c : Dev nD) (t : Fin cfg3.N) (j : ℕ) (hj : j < 4000) : row3 (iblk3 V c 3 t) j = flat3 (V c main_v55) (4000 * (79 - t.val) + j) := by
  unfold row3
  blk_simp [iblk3]
  refine (flat3_at _ _ _ ?_).symm
  blk_simp [e3_3]
  simp [ix3]
  omega

section
variable (c : Dev nD) (L : ℕ → EReal) (hS : Sorted (flat3 (V c main_v54)))
variable (hX : ∀ e, e < 320000 → flat3 (V c main_v56_0) e = X L (flat3 (V c main_v54)) e)
variable (hF : ∀ e, e < 320000 → flat3 (V c main_v56_1) e = F L (flat3 (V c main_v54)) e)
include hS hF

theorem bwd_inv : ∀ (n : ℕ) (h : n ≤ cfg3.N), BwdInv L (flat3 (V c main_v54)) (4000 * (80 - n)) (bwdSt V c n h)
  | 0, _ => ⟨fun _ => rfl, fun h => absurd h (by decide), fun h => absurd h (by decide)⟩
  | n + 1, h => by
    have h' : n < 80 := N3_eq ▸ h
    have e : 80 - (n + 1) = 79 - n := by omega
    rw [e]
    refine bwdNext_inv (b := 4000 * (79 - n)) hS (by omega) (fun j hj => ?_) (blk3_2 V c ⟨n, h⟩) ?_
    · rw [← hF _ (by omega)]; exact blk3_1 V c ⟨n, h⟩ j hj
    · have e' : 4000 * (79 - n) + 4000 = 4000 * (80 - n) := by omega
      rw [e']; exact bwd_inv n (Nat.le_of_lt h)

theorem bwdTot_at (t : Fin cfg3.N) (j : ℕ) (hj : j < 4000) :
    row (bwdTot (iblk3 V c 1 t) (iblk3 V c 2 t) (bwdSt V c t.val (Nat.le_of_lt t.isLt))) j
      = F L (flat3 (V c main_v54)) (en (flat3 (V c main_v54)) (4000 * (79 - t.val) + j)) := by
  have h' : t.val < 80 := lt_of_lt_of_eq t.isLt N3_eq
  refine bwdTot_row (b := 4000 * (79 - t.val)) hS (by omega) (fun j hj => ?_) (blk3_2 V c t) ?_ hj
  · rw [← hF _ (by omega)]; exact blk3_1 V c t j hj
  · have e' : 4000 * (79 - t.val) + 4000 = 4000 * (80 - t.val) := by omega
    rw [e']; exact bwd_inv V c L hS hF t.val (Nat.le_of_lt t.isLt)

include hX

/-- The normalised weight of an entry. -/
def tr (L : ℕ → EReal) (S : ℕ → BitVec 32) (e : ℕ) : EReal := Ideal.div (X L S e) (F L S (en S e) + Ideal.ofBits .f32 0x24E69595#32)

theorem bwdT_at (t : Fin cfg3.N) (j : ℕ) (hj : j < 4000) :
    row (bwdT (iblk3 V c 0 t) (iblk3 V c 1 t) (iblk3 V c 2 t) (bwdSt V c t.val (Nat.le_of_lt t.isLt))) j
      = tr L (flat3 (V c main_v54)) (4000 * (79 - t.val) + j) := by
  have h' : t.val < 80 := lt_of_lt_of_eq t.isLt N3_eq
  have hm : row (bwdT (iblk3 V c 0 t) (iblk3 V c 1 t) (iblk3 V c 2 t) (bwdSt V c t.val (Nat.le_of_lt t.isLt))) j
      = Ideal.div (row (k3_pay1 (iblk3 V c 0 t)) j)
        (row (bwdTot (iblk3 V c 1 t) (iblk3 V c 2 t) (bwdSt V c t.val (Nat.le_of_lt t.isLt))) j + Ideal.ofBits .f32 0x24E69595#32) := rfl
  have h1 : row (k3_pay1 (iblk3 V c 0 t)) j = row3 (iblk3 V c 0 t) j := pay2_row (iblk3 V c 0 t) j
  rw [hm, h1, bwdTot_at V c L hS hF t j hj, blk3_0 V c t j hj, hX _ (by omega)]
  rfl

/-- The weights. -/
theorem bwd_T : (dat3 V c).arrAt 4 cfg3.N
    = fun i : S80x1x4000.Idx => tr L (flat3 (V c main_v54)) (4000 * (i 0).val + (i 2).val) := by
  refine (dat3 V c).arrAt_eq_of_covers 4 _ (by decide +kernel) fun t hf y => ?_
  blk_simp
  rw [after3_4]
  refine (row3_at (bwdOutT (iblk3 V c 0 t) (iblk3 V c 1 t) (iblk3 V c 2 t) (bwdSt V c t.val (Nat.le_of_lt t.isLt))) y).symm.trans ?_
  refine (row3_cast (bwdT (iblk3 V c 0 t) (iblk3 V c 1 t) (iblk3 V c 2 t) (bwdSt V c t.val (Nat.le_of_lt t.isLt))) shapeCasts_S1x4000_S1x1x4000 _).trans ?_
  rw [bwdT_at V c L hS hX hF t _ (y 2).isLt]
  congr 1
  rw [e3_4]; simp

/-- The weights times the node attention. -/
theorem bwd_W : (dat3 V c).arrAt 5 cfg3.N
    = fun i : S80x1x4000.Idx => tr L (flat3 (V c main_v54)) (4000 * (i 0).val + (i 2).val) * flat3 (V c main_v55) (4000 * (i 0).val + (i 2).val) := by
  refine (dat3 V c).arrAt_eq_of_covers 5 _ (by decide +kernel) fun t hf y => ?_
  blk_simp
  rw [after3_5]
  refine (row3_at (bwdOutW (iblk3 V c 0 t) (iblk3 V c 1 t) (iblk3 V c 2 t) (iblk3 V c 3 t) (bwdSt V c t.val (Nat.le_of_lt t.isLt))) y).symm.trans ?_
  refine (row3_cast (mulf (bwdT (iblk3 V c 0 t) (iblk3 V c 1 t) (iblk3 V c 2 t) (bwdSt V c t.val (Nat.le_of_lt t.isLt))) (k2_pay2 (iblk3 V c 3 t)))
    shapeCasts_S1x4000_S1x1x4000 _).trans ?_
  have hm : row (mulf (bwdT (iblk3 V c 0 t) (iblk3 V c 1 t) (iblk3 V c 2 t) (bwdSt V c t.val (Nat.le_of_lt t.isLt))) (k2_pay2 (iblk3 V c 3 t))) (y 2).val
      = row (bwdT (iblk3 V c 0 t) (iblk3 V c 1 t) (iblk3 V c 2 t) (bwdSt V c t.val (Nat.le_of_lt t.isLt))) (y 2).val * row (k2_pay2 (iblk3 V c 3 t)) (y 2).val := rfl
  rw [hm, bwdT_at V c L hS hX hF t _ (y 2).isLt, pay2_row, blk3_3 V c t _ (y 2).isLt]
  congr 2 <;> rw [e3_5] <;> simp

end

end Cert.Seg

end
-- ==== Proof.RefSoftmax.lean ====
/- The reference's softmax over the segments, read at an index. -/
module

public import proofs.«01_k».proof.Proof.RefLogits
public import proofs.«01_k».proof.Proof.BwdArr
public import Idealize.ShloMosaic.Lib.Routing.Ops
public import Idealize.ShloMosaic.Lib.Routing.OpsPair
public import Idealize.ShloMosaic.Lib.Routing.OpsSearch
public import Idealize.ShloMosaic.Lib.StableHlo.ReadAt

@[expose] public section

set_option maxRecDepth 16384

noncomputable section

namespace Cert.Ref

open Cert.ReferenceIdeal Cert.ReferenceIdeal.Gen Cert.ReferenceIdeal.Value
open Idealize.ShloMosaic Idealize.ShloMosaic.TcCoe Idealize.ShloMosaic.Tactic
open Cert.Pre_inputs_ok (Below)
open Cert.Seg (Sorted fs en X F tr)

theorem idx1 {n : ℕ} (i : (⟨1, ![n]⟩ : Shape).Idx) : ∃ s, i = ix1 s :=
  ⟨i 0, funext fun a => by
    match a with
    | ⟨0, _⟩ => rfl⟩

theorem exp_sub_at (A B : FVec Ideal S320000 .f32) (e : Fin 320000) (a b : EReal) (hA : A (ix1 e) = a) (hB : B (ix1 e) = b) :
    Host.exp (subf A B) (ix1 e) = Ideal.exp (a - b) := by
  subst hA hB; rfl
theorem div_add_at (A B : FVec Ideal S320000 .f32) (w : BitVec 32) (e : Fin 320000) (a b : EReal) (hA : A (ix1 e) = a) (hB : B (ix1 e) = b) :
    Host.divf A (addf B (broadcastInDim S320000 ![] bcast_S_S320000 (constant S_ .f32 w))) (ix1 e) = Ideal.div a (b + Ideal.ofBits .f32 w) := by
  subst hA hB; rfl

/-- The entries before `n` that satisfy a predicate holding exactly below `m ≤ n` number `m`. -/
theorem count_lt (Q : ℕ → Prop) [DecidablePred Q] (n m : ℕ) (hm : m ≤ n) (h : ∀ i, i < n → (Q i ↔ i < m)) : Nat.count Q n = m := by
  rw [Nat.count_eq_card_filter_range]
  have : (Finset.range n).filter Q = Finset.range m := by
    ext i
    simp only [Finset.mem_filter, Finset.mem_range]
    exact ⟨fun ⟨a, b⟩ => (h i a).mp b, fun a => ⟨by omega, (h i (by omega)).mpr a⟩⟩
  rw [this, Finset.card_range]

/-- Below an entry's segment lie the entries before its first. -/
theorem below_iff {S : ℕ → BitVec 32} (hS : Sorted S) {e i : ℕ} (he : e < 320000) (hi : i < 320000) : (S i).toInt < (S e).toInt ↔ i < fs S e := by
  have hf := Seg.fs_self (S := S) e
  constructor
  · intro h
    by_contra h1
    have h2 := hS.mono (fs S e) i (by omega) hi
    rw [Seg.fs_seg (S := S) e] at h2
    omega
  · intro h
    have h2 := hS.mono i (fs S e) (by omega) (by omega)
    rw [Seg.fs_seg (S := S) e] at h2
    refine lt_of_le_of_ne h2 fun h3 => ?_
    have := Seg.fs_le (BitVec.eq_of_toInt_eq h3)
    omega

variable (V : Valuation τ sig (Elt Ideal))

section
variable {S : ℕ → BitVec 32} (hS : Sorted S) (hV : ∀ e : Fin 320000, (V (Proc.devRef .tc main_arg9) : S320000.Idx → BitVec 32) (ix1 e) = S e.val)
  (h9 : Below 40000 (V (Proc.devRef .tc main_arg9) : S320000.Idx → BitVec 32))

/-- Whether an entry's segment lies below another segment. -/
theorem mask_apply (s : Fin 40000) (q : Fin 320000) :
    cmpi .slt (broadcastInDim S40000x320000 ![0, 1] bcast_S1x320000_S40000x320000_0_1 (broadcastInDim S1x320000 ![1] bcast_S320000_S1x320000_1 (V (Proc.devRef .tc main_arg9))))
      (broadcastInDim S40000x320000 ![0, 1] bcast_S40000x1_S40000x320000_0_1 (broadcastInDim S40000x1 ![0] bcast_S40000_S40000x1_0 (iotaInDim S40000 32 0))) (ix2 s q)
      = IntOp.cmpi .slt ((V (Proc.devRef .tc main_arg9) : S320000.Idx → BitVec 32) (ix1 q)) (BitVec.ofNat 32 s.val) := by
  pointwise

/-- The number of entries whose segment lies below segment `s`. -/
theorem v62_count (hV : ∀ e : Fin 320000, (V (Proc.devRef .tc main_arg9) : S320000.Idx → BitVec 32) (ix1 e) = S e.val) (s : Fin 40000) :
    (res_main_v62 V : S40000.Idx → BitVec 32) (ix1 s) = BitVec.ofNat 32 (Nat.count (fun q => (S q).toInt < (BitVec.ofNat 32 s.val).toInt) 320000) := by
  unfold res_main_v62
  refine Routing.reduce_count (by norm_num) _ _ _ _ _ (fun q => (S q).toInt < (BitVec.ofNat 32 s.val).toInt) fun q => ?_
  refine (Iff.of_eq (congrArg (· = 1#1) (mask_apply V s q))).trans ?_
  rw [hV, IntOp.cmpi_slt]

theorem v62_nn (hV : ∀ e : Fin 320000, (V (Proc.devRef .tc main_arg9) : S320000.Idx → BitVec 32) (ix1 e) = S e.val) (i : S40000.Idx) :
    0 ≤ ((res_main_v62 V : S40000.Idx → BitVec 32) i).toInt := by
  obtain ⟨s, rfl⟩ := idx1 i
  rw [v62_count V hV]
  have := Nat.count_le (p := fun q => (S q).toInt < (BitVec.ofNat 32 s.val).toInt) (n := 320000)
  generalize Nat.count (fun q => (S q).toInt < (BitVec.ofNat 32 s.val).toInt) 320000 = n at this ⊢
  rw [BitVec.toInt_eq_toNat_of_lt (by rw [BitVec.toNat_ofNat]; omega)]
  omega

include hS hV h9
/-- For an entry's segment that is the segment's first entry. -/
theorem v62_apply (e : Fin 320000) : (res_main_v62 V : S40000.Idx → BitVec 32) (ix1 (Take.row 40000 (V (Proc.devRef .tc main_arg9)) e)) = BitVec.ofNat 32 (fs S e.val) := by
  rw [v62_count V hV, ← Take.word_eq h9 e, hV, count_lt _ 320000 (fs S e.val) (le_trans (Seg.fs_self _) e.isLt.le) fun i hi => below_iff hS e.isLt hi]

variable {L : ℕ → EReal} (hL : ∀ e : Fin 320000, (res_main_v54 V : S320000.Idx → EReal) (ix1 e) = L e.val)
include hL
theorem v78_apply (e : Fin 320000) : (res_main_v78 V : S320000.Idx → EReal) (ix1 e) = X L S e.val := by
  have hf : fs S e.val < 320000 := lt_of_le_of_lt (Seg.fs_self _) e.isLt
  have h : Host.gather gather_S40000_S320000x1_S320000_n_0_n_n_0_1_1 (Host.gather gather_S320000_S40000x1_S40000_n_0_n_n_0_1_1 (res_main_v54 V) (broadcastInDim S40000x1 ![0] bcast_S40000_S40000x1_0 (select (cmpi .slt (res_main_v62 V) (broadcastInDim S40000 ![] bcast_S_S40000 (constantI S_ 32 0#32))) (addi (res_main_v62 V) (broadcastInDim S40000 ![] bcast_S_S40000 (constantI S_ 32 320000#32))) (res_main_v62 V)))) (broadcastInDim S320000x1 ![0] bcast_S320000_S320000x1_0 (select (cmpi .slt (V (Proc.devRef .tc main_arg9)) (broadcastInDim S320000 ![] bcast_S_S320000 (constantI S_ 32 0#32))) (addi (V (Proc.devRef .tc main_arg9)) (broadcastInDim S320000 ![] bcast_S_S320000 (constantI S_ 32 40000#32))) (V (Proc.devRef .tc main_arg9)))) (ix1 e) = L (fs S e.val) := by
    refine (Take.entries (by norm_num) gather_S40000_S320000x1_S320000_n_0_n_n_0_1_1 rfl rfl rfl rfl _ _ h9 _ (Take.wrap _ _ (fun i => (h9 i).1) _ _ (by decide)) e).trans ?_
    refine (Routing.take_ap gather_S320000_S40000x1_S40000_n_0_n_n_0_1_1 rfl rfl rfl rfl _ _ _ hf (by omega) ?_).trans (hL ⟨fs S e.val, hf⟩)
    exact (Take.wrap _ _ (v62_nn V hV) _ _ (by decide) _).trans (v62_apply V hS hV h9 e)
  unfold res_main_v78
  exact exp_sub_at _ _ e _ _ (hL e) h

end

/-- Where an entry's update lands: at its word. -/
theorem lands (idx : IVec S320000x1 32) (i : Fin 320000) (s : Fin 40000) :
    scatter_S40000_S320000x1_S320000_n_0_0_1.resultIdx? (ix1 i) idx = some (ix1 s) ↔ (idx (ix2 i 0)).toInt = (s.val : ℤ) := by
  refine (Routing.resultIdx?_ix1 (N := 40000) scatter_S40000_S320000x1_S320000_n_0_0_1 (ix1 i) idx s).trans ?_
  have h1 : scatter_S40000_S320000x1_S320000_n_0_0_1.window (ix1 i) 0 = 0 := by
    unfold ScatterDims.window
    exact dif_neg (by decide)
  have h2 : scatter_S40000_S320000x1_S320000_n_0_0_1.start (ix1 i) idx 0 = (idx (ix2 i 0)).toInt := by
    unfold ScatterDims.start
    refine (dif_pos (by decide)).trans (congrArg (fun j => (idx j).toInt) ?_)
    funext b
    match b with
    | ⟨0, _⟩ => rfl
    | ⟨1, _⟩ => rfl
  rw [h1, h2, Nat.cast_zero, add_zero]

/-- A sum over the segments, at a segment. -/
theorem seg_sum (z : S40000.Idx → EReal) (idx : IVec S320000x1 32) (u : S320000.Idx → EReal) (s : Fin 40000) (f : ℕ → EReal) (Q : ℕ → Prop) [DecidablePred Q]
    (hz : z (ix1 s) = 0) (hu : ∀ e : Fin 320000, u (ix1 e) = f e.val) (hQ : ∀ e : Fin 320000, (idx (ix2 e 0)).toInt = (s.val : ℤ) ↔ Q e.val) :
    Host.scatterAdd (F := Ideal) (φ := .f32) scatter_S40000_S320000x1_S320000_n_0_0_1 z idx u (ix1 s) = ∑ i ∈ (Finset.range 320000).filter Q, f i := by
  show z (ix1 s) + ∑ j ∈ Finset.univ.filter (fun j => scatter_S40000_S320000x1_S320000_n_0_0_1.resultIdx? j idx = some (ix1 s)), u j = _
  rw [hz, zero_add]
  refine Finset.sum_bij (fun j _ => (j 0).val) (fun j hj => ?_) (fun j _ k _ h => ?_) (fun b hb => ?_) fun j _ => ?_
  · rw [Finset.mem_filter] at hj
    have h := hj.2
    obtain ⟨t, rfl⟩ := idx1 j
    rw [lands, hQ] at h
    exact Finset.mem_filter.mpr ⟨Finset.mem_range.mpr t.isLt, h⟩
  · obtain ⟨t, rfl⟩ := idx1 j
    obtain ⟨t', rfl⟩ := idx1 k
    exact congrArg ix1 (Fin.ext h)
  · rw [Finset.mem_filter, Finset.mem_range] at hb
    exact ⟨ix1 ⟨b, hb.1⟩, Finset.mem_filter.mpr ⟨Finset.mem_univ _, (lands idx ⟨b, hb.1⟩ s).mpr ((hQ ⟨b, hb.1⟩).mpr hb.2)⟩, rfl⟩
  · obtain ⟨t, rfl⟩ := idx1 j
    exact hu t

section
variable {S : ℕ → BitVec 32} (hS : Sorted S) (hV : ∀ e : Fin 320000, (V (Proc.devRef .tc main_arg9) : S320000.Idx → BitVec 32) (ix1 e) = S e.val)
  (h9 : Below 40000 (V (Proc.devRef .tc main_arg9) : S320000.Idx → BitVec 32))
  {L : ℕ → EReal} (hL : ∀ e : Fin 320000, (res_main_v54 V : S320000.Idx → EReal) (ix1 e) = L e.val)
include hS hV h9 hL
/-- An entry's share of its segment. -/
theorem v91_apply (e : Fin 320000) : (res_main_v91 V : S320000.Idx → EReal) (ix1 e) = tr L S e.val := by
  have h : Host.gather gather_S40000_S320000x1_S320000_n_0_n_n_0_1_1 (Host.scatterAdd (F := Ideal) (φ := .f32) scatter_S40000_S320000x1_S320000_n_0_0_1 (broadcastInDim S40000 ![] bcast_S_S40000 (constant S_ .f32 0x00000000#32)) (broadcastInDim S320000x1 ![0] bcast_S320000_S320000x1_0 (V (Proc.devRef .tc main_arg9))) (res_main_v78 V)) (broadcastInDim S320000x1 ![0] bcast_S320000_S320000x1_0 (select (cmpi .slt (V (Proc.devRef .tc main_arg9)) (broadcastInDim S320000 ![] bcast_S_S320000 (constantI S_ 32 0#32))) (addi (V (Proc.devRef .tc main_arg9)) (broadcastInDim S320000 ![] bcast_S_S320000 (constantI S_ 32 40000#32))) (V (Proc.devRef .tc main_arg9)))) (ix1 e) = F L S (en S e.val) := by
    refine (Take.entries (by norm_num) gather_S40000_S320000x1_S320000_n_0_n_n_0_1_1 rfl rfl rfl rfl _ _ h9 _ (Take.wrap _ _ (fun i => (h9 i).1) _ _ (by decide)) e).trans ?_
    rw [Seg.F_end L hS e.isLt]
    refine seg_sum _ _ _ _ (X L S) (fun i => S i = S e.val) Ideal.ofBits_zero_f32 (v78_apply V hS hV h9 hL) fun i => ?_
    have hi : (broadcastInDim S320000x1 ![0] bcast_S320000_S320000x1_0 (V (Proc.devRef .tc main_arg9)) : IVec S320000x1 32) (ix2 i 0) = S i.val := by
      refine Eq.trans ?_ (hV i)
      pointwise
    rw [hi, Take.row_val h9 e, hV]
    exact ⟨BitVec.eq_of_toInt_eq, fun h => by rw [h]⟩
  unfold res_main_v91
  exact div_add_at _ _ _ e _ _ (v78_apply V hS hV h9 hL e) h
end

end Cert.Ref

end
-- ==== Proof.KTail.lean ====
/- The kernel after the logits: the two softmax calls and the last host stretch. -/
module

public import proofs.«01_k».proof.Proof.KLogits
public import proofs.«01_k».proof.Proof.BwdArr

@[expose] public section

set_option maxRecDepth 16384

noncomputable section

namespace Cert.Lgt

open Cert.KernelIdeal Cert.KernelIdeal.Gen
open Idealize.ShloMosaic Idealize.ShloMosaic.TcCoe Idealize.ShloMosaic.Tactic
open Idealize.ShloMosaic.Pipeline
open Cert.KernelIdeal.Run
open Cert.Pre_inputs_ok (Below)
open Cert.Seg (Sorted X F tr flat3)

section
variable (V : Valuation τ sig (Elt Ideal))

/-- The sum over the destinations of one number an entry. -/
def scat0 (i : IVec S320000 32) (u : FVec Ideal S320000 .f32) : FVec Ideal S40000 .f32 :=
  Host.scatterAdd scatter_S40000_S320000x1_S320000_n_0_0_1 (broadcastInDim S40000 ![] bcast_S_S40000 (constant (F := Ideal) S_ .f32 0x00000000#32)) (broadcastInDim S320000x1 ![0] bcast_S320000_S320000x1_0 i) u
/-- The sum over the destinations of one row an entry, each row times its weight. -/
def scat1 (i : IVec S320000 32) (t : FVec Ideal S320000 .f32) (M : FVec Ideal S320000x128 .f32) : FVec Ideal S40000x128 .f32 :=
  Host.scatterAdd scatter_S40000x128_S320000x1_S320000x128_1_0_0_1 (broadcastInDim S40000x128 ![] bcast_S_S40000x128 (constant (F := Ideal) S_ .f32 0x00000000#32)) (broadcastInDim S320000x1 ![0] bcast_S320000_S320000x1_0 i)
    (mulf (broadcastInDim S320000x128 ![0, 1] bcast_S320000x1_S320000x128_0_1 (broadcastInDim S320000x1 ![0] bcast_S320000_S320000x1_0 t)) M)

theorem h4_v62 : StableHlo.after hostOps4 V (Proc.devRef .tc main_v62) = scat0 (V (Proc.devRef .tc main_arg10)) (StableHlo.after hostOps4 V (Proc.devRef .tc main_v59)) := by
  unfold hostOps4 scat0
  after_reads_simp
theorem h4_v68 : StableHlo.after hostOps4 V (Proc.devRef .tc main_v68) = scat1 (V (Proc.devRef .tc main_arg10)) (StableHlo.after hostOps4 V (Proc.devRef .tc main_v58)) (V (Proc.devRef .tc main_v48)) := by
  unfold hostOps4 scat1
  after_reads_simp
theorem h4_v58 (e : Fin 320000) : StableHlo.after hostOps4 V (Proc.devRef .tc main_v58) (ix1 e) = flat3 (V (Proc.devRef .tc main_v57_0)) e.val := by
  unfold hostOps4
  after_reads_at
  refine (Seg.flat3_at _ _ _ ?_).symm
  show e.val = 4000 * (e.val / 4000) + e.val % 4000
  omega
theorem h4_v59 (e : Fin 320000) : StableHlo.after hostOps4 V (Proc.devRef .tc main_v59) (ix1 e) = flat3 (V (Proc.devRef .tc main_v57_1)) e.val := by
  unfold hostOps4
  after_reads_at
  refine (Seg.flat3_at _ _ _ ?_).symm
  show e.val = 4000 * (e.val / 4000) + e.val % 4000
  omega
end

variable (m : (ℓ : Loc nD τ sig) → Buf (Elt Ideal) ℓ) (ρ : Dev nD → PrngReg) (c : Dev nD)

/-- The logits, entry by entry. -/
abbrev kL : ℕ → EReal := flat3 (V8 m ρ c main_v53 : S80x1x4000.Idx → EReal)
/-- The segments, entry by entry. -/
abbrev kS : ℕ → BitVec 32 := flat3 (V8 m ρ c main_v54 : S80x1x4000.Idx → BitVec 32)

/-- The place of an entry in the blocks. -/
def at3 (e : Fin 320000) : S80x1x4000.Idx := ix3 (Fin.ofNat 80 (e.val / 4000)) 0 (Fin.ofNat 4000 (e.val % 4000))
theorem at3_eNo (e : Fin 320000) : eNo (at3 e) = e := by
  apply Fin.ext
  show 4000 * (e.val / 4000 % 80) + e.val % 4000 % 4000 = e.val
  have := e.isLt
  omega

theorem kS_eq (e : Fin 320000) : kS m ρ c e.val = (m ((c : Thread nD τ).loc main_arg9)) (ix1 e) := by
  refine (h2_v54 (W7 m ρ c) (at3 e)).trans ?_
  rw [at3_eNo]
  exact congrFun (W7_args m ρ c main_arg9 (by decide)) _
theorem kA_eq (e : Fin 320000) : flat3 (V8 m ρ c main_v55 : S80x1x4000.Idx → EReal) e.val = (m ((c : Thread nD τ).loc main_arg0)) (ix1 e) := by
  refine (h2_v55 (W7 m ρ c) (at3 e)).trans ?_
  rw [at3_eNo]
  exact congrFun (W7_args m ρ c main_arg0 (by decide)) _
theorem kL_eq (h7 : Below 50000 ((m ((c : Thread nD τ).loc main_arg7)) : S320000.Idx → BitVec 32)) (h8 : Below 50000 ((m ((c : Thread nD τ).loc main_arg8)) : S320000.Idx → BitVec 32)) (e : Fin 320000) :
    kL m ρ c e.val
      = lg (preK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg7)) (m ((c : Thread nD τ).loc main_arg13)) (m ((c : Thread nD τ).loc main_arg14)) e)
          (preK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg8)) (m ((c : Thread nD τ).loc main_arg15)) (m ((c : Thread nD τ).loc main_arg16)) e)
          (m ((c : Thread nD τ).loc main_arg17)) (fun d => (m ((c : Thread nD τ).loc main_arg18)) (ix1 d)) := by
  refine (congrFun (W8_of m ρ c main_v53 (by decide)) (at3 e)).trans ((k_lgt m ρ c h7 h8 (at3 e)).trans ?_)
  rw [at3_eNo]

section
variable (hS : Sorted (kS m ρ c))
include hS

theorem keep9 (r : Ref sig .tc) (h : ∀ w : Fin cfg2.W, Pipeline.arrRef spec2 w = r → (cfg2.win w).isOut = false) : V9 m ρ c r = V8 m ρ c r := W9_of m ρ c r h

theorem k_E (e : ℕ) (he : e < 320000) : flat3 (V9 m ρ c main_v56_0 : S80x1x4000.Idx → EReal) e = X (kL m ρ c) (kS m ρ c) e := by
  have h : V9 m ρ c main_v56_0 = _ := (W9_arr m ρ c 2).trans (Seg.fwd_E (V8 m ρ) c hS)
  rw [h]
  show X _ _ (4000 * (e / 4000 % 80) + e % 4000 % 4000) = _
  congr 1; omega
theorem k_F (e : ℕ) (he : e < 320000) : flat3 (V9 m ρ c main_v56_1 : S80x1x4000.Idx → EReal) e = F (kL m ρ c) (kS m ρ c) e := by
  have h : V9 m ρ c main_v56_1 = _ := (W9_arr m ρ c 3).trans (Seg.fwd_F (V8 m ρ) c hS)
  rw [h]
  show F _ _ (4000 * (e / 4000 % 80) + e % 4000 % 4000) = _
  congr 1; omega

/-- The weights as the last host stretch finds them. -/
theorem k_v58 (e : Fin 320000) : W11 m ρ c (Proc.devRef .tc main_v58) (ix1 e) = tr (kL m ρ c) (kS m ρ c) e.val := by
  refine (h4_v58 (W10 m ρ c) e).trans ?_
  have h54 : V9 m ρ c main_v54 = V8 m ρ c main_v54 := W9_of m ρ c main_v54 (by decide)
  have h : W10 m ρ c (Proc.devRef .tc main_v57_0) = _ := (W10_arr m ρ c 4).trans (Seg.bwd_T (V9 m ρ) c (kL m ρ c) (by rw [h54]; exact hS) (fun e he => by rw [h54]; exact k_E m ρ c hS e he) (fun e he => by rw [h54]; exact k_F m ρ c hS e he))
  rw [h, h54]
  show tr _ _ (4000 * (e.val / 4000 % 80) + e.val % 4000 % 4000) = _
  congr 1; have := e.isLt; omega
/-- The weights times the node attention, likewise. -/
theorem k_v59 (e : Fin 320000) : W11 m ρ c (Proc.devRef .tc main_v59) (ix1 e) = tr (kL m ρ c) (kS m ρ c) e.val * (show EReal from (m ((c : Thread nD τ).loc main_arg0)) (ix1 e)) := by
  refine (h4_v59 (W10 m ρ c) e).trans ?_
  have h54 : V9 m ρ c main_v54 = V8 m ρ c main_v54 := W9_of m ρ c main_v54 (by decide)
  have h55 : V9 m ρ c main_v55 = V8 m ρ c main_v55 := W9_of m ρ c main_v55 (by decide)
  have h : W10 m ρ c (Proc.devRef .tc main_v57_1) = _ := (W10_arr m ρ c 5).trans (Seg.bwd_W (V9 m ρ) c (kL m ρ c) (by rw [h54]; exact hS) (fun e he => by rw [h54]; exact k_E m ρ c hS e he) (fun e he => by rw [h54]; exact k_F m ρ c hS e he))
  rw [h, h54, h55, ← kA_eq m ρ c e]
  show tr _ _ (4000 * (e.val / 4000 % 80) + e.val % 4000 % 4000) * flat3 _ (4000 * (e.val / 4000 % 80) + e.val % 4000 % 4000) = _
  have : 4000 * (e.val / 4000 % 80) + e.val % 4000 % 4000 = e.val := by have := e.isLt; omega
  rw [this]
end

/-- The messages as the last host stretch finds them. -/
theorem k_v48' (hw : Below 50000 ((m ((c : Thread nD τ).loc main_arg8)) : S320000.Idx → BitVec 32)) (e : Fin 320000) (d : Fin 128) : W10 m ρ c (Proc.devRef .tc main_v48) (ix2 e d)
    = msg (m ((c : Thread nD τ).loc main_arg1)) (m ((c : Thread nD τ).loc main_arg19)) (m ((c : Thread nD τ).loc main_arg20)) (Take.row 50000 (m ((c : Thread nD τ).loc main_arg8)) e) d :=
  (congrFun ((W10_of m ρ c main_v48 (by decide)).trans ((W9_of m ρ c main_v48 (by decide)).trans ((W8_of m ρ c main_v48 (by decide)).trans
    ((W7_of m ρ c main_v48 (by decide)).trans (W6_of m ρ c main_v48 (by decide)))))) _).trans (k_v48 m ρ c hw e d)

end Cert.Lgt

end
-- ==== Proof.Values.lean ====
/- The kernel's two results over the reals are the reference's. -/
module

public import proofs.«01_k».proof.Proof.Algebra
public import proofs.«01_k».proof.Proof.RefSoftmax
public import proofs.«01_k».proof.Proof.KTail

@[expose] public section

set_option maxRecDepth 16384

noncomputable section

namespace Cert.Ref

open Cert.ReferenceIdeal Cert.ReferenceIdeal.Gen Cert.ReferenceIdeal.Value
open Idealize.ShloMosaic Idealize.ShloMosaic.TcCoe Idealize.ShloMosaic.Tactic
open Cert.Pre_inputs_ok (Ok Below)
open Cert.Lgt (lg preK msg)
open Cert.Seg (Sorted)

/-- Neighbours in order make the whole list sorted. -/
theorem sorted_of (S : ℕ → BitVec 32) (a9 : S320000.Idx → BitVec 32) (hS : ∀ e : Fin 320000, S e.val = a9 (ix1 e)) (h9 : Below 40000 a9)
    (h : ∀ (j : ℕ) (h : j + 1 < 320000), (a9 (ix1 ⟨j, Nat.lt_of_succ_lt h⟩)).toInt ≤ (a9 (ix1 ⟨j + 1, h⟩)).toInt) : Sorted S := by
  refine ⟨fun e he => ?_, fun i j hij => ?_⟩
  · rw [hS ⟨e, he⟩]; exact (h9 _).1
  · induction j, hij using Nat.le_induction with
    | base => exact fun _ => le_rfl
    | succ j hij ih =>
      intro hj
      refine (ih (by omega)).trans ?_
      rw [hS ⟨j, by omega⟩, hS ⟨j + 1, hj⟩]
      exact h j hj

variable (V : Valuation τ sig (Elt Ideal)) (a1 : S50000x128.Idx → EReal) (a2 : S320000x128.Idx → EReal) (a3 a4 a5 : S64x128.Idx → EReal)
  (a6 a7 a8 a9 : S320000.Idx → BitVec 32) (P : S128x64.Idx → EReal) (b : S64.Idx → EReal) (W13 : S320x64.Idx → EReal) (b14 : S64.Idx → EReal)
  (W15 : S320x64.Idx → EReal) (b16 : S64.Idx → EReal) (C : S64x64.Idx → EReal) (b18 : S64.Idx → EReal) (M : S128x128.Idx → EReal) (b20 : S128.Idx → EReal)

/-- The reference's logits are the kernel's. -/
theorem v54_eq (e1 : V (Proc.devRef .tc main_arg1) = a1) (e2 : V (Proc.devRef .tc main_arg2) = a2) (e3 : V (Proc.devRef .tc main_arg3) = a3)
    (e4 : V (Proc.devRef .tc main_arg4) = a4) (e5 : V (Proc.devRef .tc main_arg5) = a5) (e6 : V (Proc.devRef .tc main_arg6) = a6) (e7 : V (Proc.devRef .tc main_arg7) = a7)
    (e8 : V (Proc.devRef .tc main_arg8) = a8) (e11 : V (Proc.devRef .tc main_arg11) = P) (e12 : V (Proc.devRef .tc main_arg12) = b) (e13 : V (Proc.devRef .tc main_arg13) = W13)
    (e14 : V (Proc.devRef .tc main_arg14) = b14) (e15 : V (Proc.devRef .tc main_arg15) = W15) (e16 : V (Proc.devRef .tc main_arg16) = b16)
    (e17 : V (Proc.devRef .tc main_arg17) = C) (e18 : V (Proc.devRef .tc main_arg18) = b18) (ok : Ok a1 a2 a6 a7 a8 a9 P W13 W15) (e : Fin 320000) :
    (res_main_v54 V : S320000.Idx → EReal) (ix1 e)
      = lg (preK a1 a2 a3 a4 a5 a6 P b a7 W13 b14 e) (preK a1 a2 a3 a4 a5 a6 P b a8 W15 b16 e) C (fun d => b18 (ix1 d)) := by
  refine (v54_apply V e).trans ?_
  have hl : (fun d => res_main_v34 V (ix2 e d)) = preK a1 a2 a3 a4 a5 a6 P b a7 W13 b14 e := funext fun d => by
    rw [Alg.preK_eq _ _ _ _ _ _ _ _ _ _ _ ok.r6 ok.f1 ok.f2 ok.f11 ok.f13]
    subst e1 e2 e3 e4 e5 e6 e7 e8 e11 e12 e13 e14
    exact v34_apply V ok.r7 ok.r6 e d
  have hr : (fun d => res_main_v43 V (ix2 e d)) = preK a1 a2 a3 a4 a5 a6 P b a8 W15 b16 e := funext fun d => by
    rw [Alg.preK_eq _ _ _ _ _ _ _ _ _ _ _ ok.r6 ok.f1 ok.f2 ok.f11 ok.f15]
    subst e1 e2 e3 e4 e5 e6 e7 e8 e11 e12 e15 e16
    exact v43_apply V ok.r8 ok.r6 e d
  subst e17 e18
  exact congr (congr (congrArg₂ lg hl hr) rfl) rfl

/-- The messages: a row of the memory times the weights, plus the bias. -/
def msgs (T : FVec Ideal S320000x128 .f32) (A : FVec Ideal S128x128 .f32) (l : FVec Ideal S128 .f32) : FVec Ideal S320000x128 .f32 :=
  addf (Host.dotGeneral dot_S320000x128_S128x128_S320000x128_1_0_0_1_n_n none T A)
    (broadcastInDim S320000x128 ![0, 1] bcast_S1x128_S320000x128_0_1 (broadcastInDim S1x128 ![1] bcast_S128_S1x128_1 l))
theorem msgs_apply (T : FVec Ideal S320000x128 .f32) (A : FVec Ideal S128x128 .f32) (l : FVec Ideal S128 .f32) (e : Fin 320000) (d : Fin 128)
    (a1 : S50000x128.Idx → EReal) (r : Fin 50000) (h : ∀ j, T (ix2 e j) = a1 (ix2 r j)) : msgs T A l (ix2 e d) = msg a1 A l r d := by
  have h' : msgs T A l (ix2 e d) = (∑ j : Fin 128, T (ix2 e j) * A (ix2 j d)) + l (ix1 d) := by
    unfold msgs
    pointwise
  refine h'.trans ?_
  unfold msg
  exact congrArg (fun t : EReal => t + l (ix1 d)) (Finset.sum_congr rfl fun j _ => congrArg (fun t : EReal => t * A (ix2 j d)) (h j))

/-- The sum over the destinations of one number an entry. -/
def scat0 (i : IVec S320000 32) (u : FVec Ideal S320000 .f32) : FVec Ideal S40000 .f32 :=
  Host.scatterAdd scatter_S40000_S320000x1_S320000_n_0_0_1 (broadcastInDim S40000 ![] bcast_S_S40000 (constant (F := Ideal) S_ .f32 0x00000000#32)) (broadcastInDim S320000x1 ![0] bcast_S320000_S320000x1_0 i) u
/-- The sum over the destinations of one row an entry, each row times its weight. -/
def scat1 (i : IVec S320000 32) (t : FVec Ideal S320000 .f32) (M : FVec Ideal S320000x128 .f32) : FVec Ideal S40000x128 .f32 :=
  Host.scatterAdd scatter_S40000x128_S320000x1_S320000x128_1_0_0_1 (broadcastInDim S40000x128 ![] bcast_S_S40000x128 (constant (F := Ideal) S_ .f32 0x00000000#32)) (broadcastInDim S320000x1 ![0] bcast_S320000_S320000x1_0 i)
    (mulf (broadcastInDim S320000x128 ![0, 1] bcast_S320000x1_S320000x128_0_1 (broadcastInDim S320000x1 ![0] bcast_S320000_S320000x1_0 t)) M)
theorem scat0_same : Lgt.scat0 = scat0 := rfl
theorem scat1_same : Lgt.scat1 = scat1 := rfl

end Cert.Ref

namespace Cert.Proof

open Idealize.ShloMosaic Idealize.ShloMosaic.TcCoe Idealize.ShloMosaic.Tactic
open Cert.Pre_inputs_ok (Ok)
open Cert.Seg (Sorted tr)
open Cert.Lgt (kL kS)
open Cert.KernelIdeal.Run (W10 W11 W10_args)
open Cert.ReferenceIdeal.Value (res_main_v91 res_main_v17)

theorem idx2 {n k : ℕ} (i : (⟨2, ![n, k]⟩ : Shape).Idx) : ∃ s t, i = ix2 s t :=
  ⟨i 0, i 1, funext fun a => by
    match a with
    | ⟨0, _⟩ => rfl
    | ⟨1, _⟩ => rfl⟩

section
open Cert.KernelIdeal

variable (m : (ℓ : Loc nD τ sig) → Buf (Elt Ideal) ℓ) (ρ : Dev nD → PrngReg) (c : Dev nD)
  (V : Valuation Cert.ReferenceIdeal.τ Cert.ReferenceIdeal.sig (Elt Ideal))

/-- The reference finds the kernel's arguments. -/
structure Agree : Prop where
  e0 : V (Proc.devRef .tc Cert.ReferenceIdeal.main_arg0) = m ((c : Thread nD τ).loc main_arg0)
  e1 : V (Proc.devRef .tc Cert.ReferenceIdeal.main_arg1) = m ((c : Thread nD τ).loc main_arg1)
  e2 : V (Proc.devRef .tc Cert.ReferenceIdeal.main_arg2) = m ((c : Thread nD τ).loc main_arg2)
  e3 : V (Proc.devRef .tc Cert.ReferenceIdeal.main_arg3) = m ((c : Thread nD τ).loc main_arg3)
  e4 : V (Proc.devRef .tc Cert.ReferenceIdeal.main_arg4) = m ((c : Thread nD τ).loc main_arg4)
  e5 : V (Proc.devRef .tc Cert.ReferenceIdeal.main_arg5) = m ((c : Thread nD τ).loc main_arg5)
  e6 : V (Proc.devRef .tc Cert.ReferenceIdeal.main_arg6) = m ((c : Thread nD τ).loc main_arg6)
  e7 : V (Proc.devRef .tc Cert.ReferenceIdeal.main_arg7) = m ((c : Thread nD τ).loc main_arg7)
  e8 : V (Proc.devRef .tc Cert.ReferenceIdeal.main_arg8) = m ((c : Thread nD τ).loc main_arg8)
  e9 : V (Proc.devRef .tc Cert.ReferenceIdeal.main_arg9) = m ((c : Thread nD τ).loc main_arg9)
  e10 : V (Proc.devRef .tc Cert.ReferenceIdeal.main_arg10) = m ((c : Thread nD τ).loc main_arg10)
  e11 : V (Proc.devRef .tc Cert.ReferenceIdeal.main_arg11) = m ((c : Thread nD τ).loc main_arg11)
  e12 : V (Proc.devRef .tc Cert.ReferenceIdeal.main_arg12) = m ((c : Thread nD τ).loc main_arg12)
  e13 : V (Proc.devRef .tc Cert.ReferenceIdeal.main_arg13) = m ((c : Thread nD τ).loc main_arg13)
  e14 : V (Proc.devRef .tc Cert.ReferenceIdeal.main_arg14) = m ((c : Thread nD τ).loc main_arg14)
  e15 : V (Proc.devRef .tc Cert.ReferenceIdeal.main_arg15) = m ((c : Thread nD τ).loc main_arg15)
  e16 : V (Proc.devRef .tc Cert.ReferenceIdeal.main_arg16) = m ((c : Thread nD τ).loc main_arg16)
  e17 : V (Proc.devRef .tc Cert.ReferenceIdeal.main_arg17) = m ((c : Thread nD τ).loc main_arg17)
  e18 : V (Proc.devRef .tc Cert.ReferenceIdeal.main_arg18) = m ((c : Thread nD τ).loc main_arg18)
  e19 : V (Proc.devRef .tc Cert.ReferenceIdeal.main_arg19) = m ((c : Thread nD τ).loc main_arg19)
  e20 : V (Proc.devRef .tc Cert.ReferenceIdeal.main_arg20) = m ((c : Thread nD τ).loc main_arg20)

variable (ag : Agree m c V)
  (ok : Ok (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg13)) (m ((c : Thread nD τ).loc main_arg15)))

include ok in
theorem sorted : Sorted (kS m ρ c) := Ref.sorted_of _ _ (Lgt.kS_eq m ρ c) ok.r9 ok.sorted

include ag ok

theorem v91_eq (e : Fin 320000) : (res_main_v91 V : S320000.Idx → EReal) (ix1 e) = tr (kL m ρ c) (kS m ρ c) e.val := by
  refine Ref.v91_apply V (sorted m ρ c ok) (fun e => ?_) ?_ (fun e => ?_) e
  · exact (congrFun ag.e9 (ix1 e)).trans (Lgt.kS_eq m ρ c e).symm
  · exact fun i => (congrFun ag.e9 i) ▸ ok.r9 i
  · exact (Ref.v54_eq V _ _ _ _ _ _ _ _ _ _ _ _ _ _ _ _ _ ag.e1 ag.e2 ag.e3 ag.e4 ag.e5 ag.e6 ag.e7 ag.e8 ag.e11 ag.e12 ag.e13 ag.e14 ag.e15 ag.e16 ag.e17 ag.e18 ok e).trans
      (Lgt.kL_eq m ρ c ok.r7 ok.r8 e).symm

/-- The first result. -/
theorem res0 : W11 m ρ c (Proc.devRef .tc main_v62) = Ref.scat0 (V (Proc.devRef .tc Cert.ReferenceIdeal.main_arg10)) (mulf (res_main_v91 V) (V (Proc.devRef .tc Cert.ReferenceIdeal.main_arg0))) := by
  refine (Lgt.h4_v62 (W10 m ρ c)).trans ((congrArg₂ Lgt.scat0 ((W10_args m ρ c main_arg10 (by decide)).trans ag.e10.symm) (funext fun i => ?_)).trans (congrFun (congrFun Ref.scat0_same _) _))
  obtain ⟨e, rfl⟩ := Ref.idx1 i
  refine (Lgt.k_v59 m ρ c (sorted m ρ c ok) e).trans ?_
  exact congrArg₂ (fun a b : EReal => a * b) (v91_eq m ρ c V ag ok e).symm (congrFun ag.e0 (ix1 e)).symm

/-- The second result. -/
theorem res1 : W11 m ρ c (Proc.devRef .tc main_v68) = Ref.scat1 (V (Proc.devRef .tc Cert.ReferenceIdeal.main_arg10)) (res_main_v91 V)
    (Ref.msgs (res_main_v17 V) (V (Proc.devRef .tc Cert.ReferenceIdeal.main_arg19)) (V (Proc.devRef .tc Cert.ReferenceIdeal.main_arg20))) := by
  refine (Lgt.h4_v68 (W10 m ρ c)).trans ((congr (congrArg₂ Lgt.scat1 ((W10_args m ρ c main_arg10 (by decide)).trans ag.e10.symm) (funext fun i => ?_)) (funext fun i => ?_)).trans
    (congrFun (congrFun (congrFun Ref.scat1_same _) _) _))
  · obtain ⟨e, rfl⟩ := Ref.idx1 i
    exact (Lgt.k_v58 m ρ c (sorted m ρ c ok) e).trans (v91_eq m ρ c V ag ok e).symm
  · obtain ⟨e, d, rfl⟩ := idx2 i
    refine (Lgt.k_v48' m ρ c ok.r8 e d).trans ?_
    rw [← ag.e19, ← ag.e20]
    refine (Ref.msgs_apply _ _ _ e d _ _ fun j => ?_).symm
    have h := Ref.v17_apply V (fun i => (congrFun ag.e8 i) ▸ ok.r8 i) e j
    rw [ag.e1, ag.e8] at h
    exact h

end

end Cert.Proof

end
-- ==== Proof.Agreement.lean ====
/- The value claim: run on the same arguments, the kernel and the reference leave the same results over the reals. -/
module

public import proofs.«01_k».proof.Proof.Frames
public import proofs.«01_k».proof.Proof.Pre
public import proofs.«01_k».proof.Proof.Values

@[expose] public section

set_option maxRecDepth 65536

noncomputable section

namespace Cert.Proof

open Idealize.ShloMosaic Idealize.ShloMosaic.TcCoe Idealize.ShloMosaic.Tactic Idealize.SL.Sem
open Cert.KernelIdeal.Run (W11 run_all args_of_last mem_uc)

section
open Cert.KernelIdeal

/-- The kernel's run: the two results as the last stretch leaves them, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v62) = W11 m ρ c (Proc.devRef .tc main_v62)
      ∧ r.2.mem ((c.tc : Thread nD τ).loc main_v68) = W11 m ρ c (Proc.devRef .tc main_v68)
      ∧ ∀ a ∈ Cert.KernelIdeal.Run.argRefs, ¬ (Proc.devRef .tc a : DevRef τ sig).isScoped → r.2.mem ((c.tc : Thread nD τ).loc a) = m ((c.tc : Thread nD τ).loc a)) :=
  (θ_run defs _ _).mono (fun _ h c => ⟨h.1 c _ (mem_uc main_v62 (by decide)), h.1 c _ (mem_uc main_v68 (by decide)), args_of_last m ρ c (h.1 c)⟩) (run_all m ρ)

end

/-- Over the reals the kernel and the reference agree on every result. -/
theorem agree : letI := Cert.KernelIdeal.Gen.facts; letI := Cert.ReferenceIdeal.Gen.facts; letI := Cert.Pre_inputs_ok.facts
    algebraic_KernelIdeal_ReferenceIdeal_pre_inputs_ok := by
  intro m g m' g' hpre hagree
  refine ⟨fun c => W11 m g c (Proc.devRef .tc Cert.KernelIdeal.main_v62), fun c => W11 m g c (Proc.devRef .tc Cert.KernelIdeal.main_v68), ?_, ?_⟩
  · refine (θ_run _ _ _).mono (fun r h c => ?_) (kernel_run m g)
    obtain ⟨h0, h1, ha⟩ := h c
    refine ⟨h0, h1, ?_, ?_, ?_, ?_, ?_, ?_, ?_, ?_, ?_, ?_, ?_, ?_, ?_, ?_, ?_, ?_, ?_, ?_, ?_, ?_, ?_⟩ <;> exact ha _ (by decide) (by decide)
  · refine (θ_run _ _ _).mono (fun r h c => ?_) (Cert.ReferenceIdeal.Value.run m' g')
    obtain ⟨h0, h1, ha⟩ := h c
    obtain ⟨e0, e1, e2, e3, e4, e5, e6, e7, e8, e9, e10, e11, e12, e13, e14, e15, e16, e17, e18, e19, e20⟩ := hagree c
    have ag : Agree m c (StableHlo.launchContents m' c) := ⟨e0, e1, e2, e3, e4, e5, e6, e7, e8, e9, e10, e11, e12, e13, e14, e15, e16, e17, e18, e19, e20⟩
    have ok := Cert.Pre_inputs_ok.ok_of _ _ _ _ _ _ _ _ _ _ _ _ _ _ _ _ _ _ _ _ _ (hpre c)
    exact ⟨h0.trans (res0 m g c _ ag ok).symm, h1.trans (res1 m g c _ ag ok).symm, ha⟩

end Cert.Proof

end
-- ==== Proof.lean ====
module

public import proofs.«01_k».proof.Defs
public import proofs.«01_k».proof.Proof.Frames
public import proofs.«01_k».proof.Proof.Agreement
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_inputs_ok.facts, kernel_frame, kernelIdeal_frame,
    fun m g _ => kernelIdeal_frame m g trivial, referenceIdeal_frame, fun m g _ => referenceIdeal_frame m g trivial, trivial, agree⟩

end Cert.Proof

end
